-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1024x1024 : Shape := ⟨2, ![1024, 1024]⟩
abbrev S16x64x64 : Shape := ⟨3, ![16, 64, 64]⟩
abbrev S2x512x64 : Shape := ⟨3, ![2, 512, 64]⟩
abbrev S2x512x256 : Shape := ⟨3, ![2, 512, 256]⟩
abbrev S3072x4096 : Shape := ⟨2, ![3072, 4096]⟩
abbrev S3072x1024 : Shape := ⟨2, ![3072, 1024]⟩
abbrev S3072 : Shape := ⟨1, ![3072]⟩
abbrev S_ : Shape := ⟨0, ![]⟩
abbrev S1024x16x64 : Shape := ⟨3, ![1024, 16, 64]⟩
abbrev S16x64x1024 : Shape := ⟨3, ![16, 64, 1024]⟩
abbrev S1x512x64 : Shape := ⟨3, ![1, 512, 64]⟩
abbrev S512x64 : Shape := ⟨2, ![512, 64]⟩
abbrev S1024x64 : Shape := ⟨2, ![1024, 64]⟩
abbrev S1024x1x64 : Shape := ⟨3, ![1024, 1, 64]⟩
abbrev S1024x2x64 : Shape := ⟨3, ![1024, 2, 64]⟩
abbrev S1024x16x2 : Shape := ⟨3, ![1024, 16, 2]⟩
abbrev S1024x16x1 : Shape := ⟨3, ![1024, 16, 1]⟩
abbrev S1024x16 : Shape := ⟨2, ![1024, 16]⟩
abbrev S1x512x256 : Shape := ⟨3, ![1, 512, 256]⟩
abbrev S512x256 : Shape := ⟨2, ![512, 256]⟩
abbrev S1x3072 : Shape := ⟨2, ![1, 3072]⟩
abbrev S256x4096 : Shape := ⟨2, ![256, 4096]⟩
abbrev S256x1024 : Shape := ⟨2, ![256, 1024]⟩
abbrev S1024x256 : Shape := ⟨2, ![1024, 256]⟩
abbrev S1024x4096 : Shape := ⟨2, ![1024, 4096]⟩
abbrev S1024x2048 : Shape := ⟨2, ![1024, 2048]⟩
abbrev S1024x1 : Shape := ⟨2, ![1024, 1]⟩
abbrev S1024x16x16 : Shape := ⟨3, ![1024, 16, 16]⟩
abbrev S256x16 : Shape := ⟨2, ![256, 16]⟩
abbrev S1x256 : Shape := ⟨2, ![1, 256]⟩
abbrev S16x256 : Shape := ⟨2, ![16, 256]⟩

abbrev nBuf : Space → Nat
  | .hbm => 43
  | .vmem => 19
  | .smem => 0
  | _ => 0

abbrev bufTy : (tb : Table) → Fin (tcTables nBuf tb) → BufTy
  | .hbm, ⟨0, _⟩ => ⟨S1024x512, .f32⟩
  | .hbm, ⟨1, _⟩ => ⟨S1024x1024, .f32⟩
  | .hbm, ⟨2, _⟩ => ⟨S16x64x64, .f32⟩
  | .hbm, ⟨3, _⟩ => ⟨S2x512x64, .f32⟩
  | .hbm, ⟨4, _⟩ => ⟨S2x512x256, .f32⟩
  | .hbm, ⟨5, _⟩ => ⟨S3072x4096, .f32⟩
  | .hbm, ⟨6, _⟩ => ⟨S3072x1024, .f32⟩
  | .hbm, ⟨7, _⟩ => ⟨S3072, .f32⟩
  | .hbm, ⟨8, _⟩ => ⟨S3072, .f32⟩
  | .hbm, ⟨9, _⟩ => ⟨S_, .i32⟩
  | .hbm, ⟨10, _⟩ => ⟨S1024x16x64, .f32⟩
  | .hbm, ⟨11, _⟩ => ⟨S16x64x1024, .f32⟩
  | .hbm, ⟨12, _⟩ => ⟨S1024x16x64, .f32⟩
  | .hbm, ⟨13, _⟩ => ⟨S1x512x64, .f32⟩
  | .hbm, ⟨14, _⟩ => ⟨S512x64, .f32⟩
  | .hbm, ⟨15, _⟩ => ⟨S1024x64, .f32⟩
  | .hbm, ⟨16, _⟩ => ⟨S1024x1x64, .f32⟩
  | .hbm, ⟨17, _⟩ => ⟨S_, .f32⟩
  | .hbm, ⟨18, _⟩ => ⟨S1024x1x64, .f32⟩
  | .hbm, ⟨19, _⟩ => ⟨S1024x1x64, .f32⟩
  | .hbm, ⟨20, _⟩ => ⟨S1024x2x64, .f32⟩
  | .hbm, ⟨21, _⟩ => ⟨S1024x16x2, .f32⟩
  | .hbm, ⟨22, _⟩ => ⟨S_, .f32⟩
  | .hbm, ⟨23, _⟩ => ⟨S1024x16x2, .f32⟩
  | .hbm, ⟨24, _⟩ => ⟨S1024x16x2, .f32⟩
  | .hbm, ⟨25, _⟩ => ⟨S1024x16x1, .f32⟩
  | .hbm, ⟨26, _⟩ => ⟨S1024x16, .f32⟩
  | .hbm, ⟨27, _⟩ => ⟨S_, .f32⟩
  | .hbm, ⟨28, _⟩ => ⟨S1024x16, .f32⟩
  | .hbm, ⟨29, _⟩ => ⟨S1024x16, .f32⟩
  | .hbm, ⟨30, _⟩ => ⟨S1024x16, .f32⟩
  | .hbm, ⟨31, _⟩ => ⟨S1024x16, .f32⟩
  | .hbm, ⟨32, _⟩ => ⟨S1024x16, .f32⟩
  | .hbm, ⟨33, _⟩ => ⟨S1024x16, .f32⟩
  | .hbm, ⟨34, _⟩ => ⟨S1024x16, .f32⟩
  | .hbm, ⟨35, _⟩ => ⟨S1024x16, .f32⟩
  | .hbm, ⟨36, _⟩ => ⟨S1024x16, .f32⟩
  | .hbm, ⟨37, _⟩ => ⟨S1x512x256, .f32⟩
  | .hbm, ⟨38, _⟩ => ⟨S512x256, .f32⟩
  | .hbm, ⟨39, _⟩ => ⟨S1x3072, .f32⟩
  | .hbm, ⟨40, _⟩ => ⟨S1x3072, .f32⟩
  | .hbm, ⟨41, _⟩ => ⟨S1024x1024, .f32⟩
  | .hbm, ⟨42, _⟩ => ⟨S1024x1024, .f32⟩
  | .local _ .vmem, ⟨0, _⟩ => ⟨S1024x512, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S512x256, .f32⟩
  | .local _ .vmem, ⟨5, _⟩ => ⟨S256x4096, .f32⟩
  | .local _ .vmem, ⟨6, _⟩ => ⟨S256x4096, .f32⟩
  | .local _ .vmem, ⟨7, _⟩ => ⟨S256x1024, .f32⟩
  | .local _ .vmem, ⟨8, _⟩ => ⟨S256x1024, .f32⟩
  | .local _ .vmem, ⟨9, _⟩ => ⟨S1x3072, .f32⟩
  | .local _ .vmem, ⟨10, _⟩ => ⟨S1x3072, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x4096, .bf16⟩
  | .local _ .vmem, ⟨16, _⟩ => ⟨S1024x1024, .bf16⟩
  | .local _ .vmem, ⟨17, _⟩ => ⟨S1024x2048, .bf16⟩
  | .local _ .vmem, ⟨18, _⟩ => ⟨S1024x16, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c8_i32 : BitVec 32 := 8#32
  let v11 : BitVec 1 := Scalar.cmpi .slt arg0 c8_i32
  let v12 : BitVec 32 := Scalar.extui v11
  let c0_i32_9 : BitVec 32 := 0#32
  let v13 : BitVec 1 := Scalar.cmpi .ne v12 c0_i32_9
  v13

def k0_off1 (i : grid0.Coords) : Fin 2 → Nat :=
  let c0_12 : Index := 0#32
  let arg0 : BitVec 32 := BitVec.ofNat 32 (i 0).val
  let c256_i32 : BitVec 32 := 256#32
  let v19 : BitVec 32 := Scalar.muli arg0 c256_i32
  let v20 : Index := Scalar.indexCast v19
  ![0, v20.toNat]
def k0_cond3 (i : grid0.Coords) : BitVec 1 :=
  let arg0 : BitVec 32 := BitVec.ofNat 32 (i 0).val
  let c8_i32_10 : BitVec 32 := 8#32
  let v14 : BitVec 1 := Scalar.cmpi .sge arg0 c8_i32_10
  let v15 : BitVec 32 := Scalar.extui v14
  let c0_i32_11 : BitVec 32 := 0#32
  let v16 : BitVec 1 := Scalar.cmpi .ne v15 c0_i32_11
  v16

def k0_off2 (i : grid0.Coords) (c0_i32_13 : BitVec 32) : Fin 2 → Nat :=
  let c0_14 : Index := 0#32
  let arg0 : BitVec 32 := BitVec.ofNat 32 (i 0).val
  let c8_i32_12 : BitVec 32 := 8#32
  let v17 : BitVec 32 := Scalar.subi arg0 c8_i32_12
  let c256_i32 : BitVec 32 := 256#32
  let v18 : BitVec 32 := Scalar.muli v17 c256_i32
  let v19 : BitVec 32 := Scalar.addi c0_i32_13 v18
  let v20 : Index := Scalar.indexCast v19
  ![0, v20.toNat]
def k0_off3 (i : grid0.Coords) (c0_i32_15 : BitVec 32) : Fin 2 → Nat :=
  let c0_16 : Index := 0#32
  let arg0 : BitVec 32 := BitVec.ofNat 32 (i 0).val
  let c8_i32_12 : BitVec 32 := 8#32
  let v17 : BitVec 32 := Scalar.subi arg0 c8_i32_12
  let c256_i32 : BitVec 32 := 256#32
  let v18 : BitVec 32 := Scalar.muli v17 c256_i32
  let v23 : BitVec 32 := Scalar.addi c0_i32_15 v18
  let v24 : Index := Scalar.indexCast v23
  ![0, v24.toNat]
def k0_off4 (i : grid0.Coords) : Fin 2 → Nat :=
  let c0_27 : Index := 0#32
  let arg0 : BitVec 32 := BitVec.ofNat 32 (i 0).val
  let c8_i32_12 : BitVec 32 := 8#32
  let v17 : BitVec 32 := Scalar.subi arg0 c8_i32_12
  let c256_i32 : BitVec 32 := 256#32
  let v18 : BitVec 32 := Scalar.muli v17 c256_i32
  let v66 : Index := Scalar.indexCast v18
  ![0, v66.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1024x512 : Shape := ⟨2, ![1024, 512]⟩
abbrev S1024x1024 : Shape := ⟨2, ![1024, 1024]⟩
abbrev S16x64x64 : Shape := ⟨3, ![16, 64, 64]⟩
abbrev S2x512x64 : Shape := ⟨3, ![2, 512, 64]⟩
abbrev S2x512x256 : Shape := ⟨3, ![2, 512, 256]⟩
abbrev S3072x4096 : Shape := ⟨2, ![3072, 4096]⟩
abbrev S3072x1024 : Shape := ⟨2, ![3072, 1024]⟩
abbrev S3072 : Shape := ⟨1, ![3072]⟩
abbrev S_ : Shape := ⟨0, ![]⟩
abbrev S1024x1x512 : Shape := ⟨3, ![1024, 1, 512]⟩
abbrev S1x1024x1x1x1x512 : Shape := ⟨6, ![1, 1024, 1, 1, 1, 512]⟩
abbrev S1024x2x512 : Shape := ⟨3, ![1024, 2, 512]⟩
abbrev S1024x16x64 : Shape := ⟨3, ![1024, 16, 64]⟩
abbrev S16x64x1024 : Shape := ⟨3, ![16, 64, 1024]⟩
abbrev S2x64x1024 : Shape := ⟨3, ![2, 64, 1024]⟩
abbrev S1024x2x64 : Shape := ⟨3, ![1024, 2, 64]⟩
abbrev S2x256x1024 : Shape := ⟨3, ![2, 256, 1024]⟩
abbrev S1024x2x256 : Shape := ⟨3, ![1024, 2, 256]⟩
abbrev S1024x16x2 : Shape := ⟨3, ![1024, 16, 2]⟩
abbrev S1024x16 : Shape := ⟨2, ![1024, 16]⟩
abbrev S1024x16x1 : Shape := ⟨3, ![1024, 16, 1]⟩
abbrev S1024x16x256 : Shape := ⟨3, ![1024, 16, 256]⟩
abbrev S1024x4096 : Shape := ⟨2, ![1024, 4096]⟩
abbrev S1024x8 : Shape := ⟨2, ![1024, 8]⟩
abbrev S1024 : Shape := ⟨1, ![1024]⟩
abbrev S1024x1 : Shape := ⟨2, ![1024, 1]⟩
abbrev S1024x8x1 : Shape := ⟨3, ![1024, 8, 1]⟩
abbrev S1024x8x2 : Shape := ⟨3, ![1024, 8, 2]⟩
abbrev S1024x16x1x64 : Shape := ⟨4, ![1024, 16, 1, 64]⟩
abbrev S4096x3072 : Shape := ⟨2, ![4096, 3072]⟩
abbrev S1024x3072 : Shape := ⟨2, ![1024, 3072]⟩
abbrev S1x3072 : Shape := ⟨2, ![1, 3072]⟩

abbrev nBuf : Space → Nat
  | .hbm => 126
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x1024, .f32⟩
  | .hbm, ⟨2, _⟩ => ⟨S16x64x64, .f32⟩
  | .hbm, ⟨3, _⟩ => ⟨S2x512x64, .f32⟩
  | .hbm, ⟨4, _⟩ => ⟨S2x512x256, .f32⟩
  | .hbm, ⟨5, _⟩ => ⟨S3072x4096, .f32⟩
  | .hbm, ⟨6, _⟩ => ⟨S3072x1024, .f32⟩
  | .hbm, ⟨7, _⟩ => ⟨S3072, .f32⟩
  | .hbm, ⟨8, _⟩ => ⟨S3072, .f32⟩
  | .hbm, ⟨9, _⟩ => ⟨S_, .i32⟩
  | .hbm, ⟨10, _⟩ => ⟨S1024x1x512, .f32⟩
  | .hbm, ⟨11, _⟩ => ⟨S1x1024x1x1x1x512, .f32⟩
  | .hbm, ⟨12, _⟩ => ⟨S1x1024x1x1x1x512, .f32⟩
  | .hbm, ⟨13, _⟩ => ⟨S1024x1x512, .f32⟩
  | .hbm, ⟨14, _⟩ => ⟨S_, .f32⟩
  | .hbm, ⟨15, _⟩ => ⟨S1024x1x512, .f32⟩
  | .hbm, ⟨16, _⟩ => ⟨S1024x2x512, .f32⟩
  | .hbm, ⟨17, _⟩ => ⟨S1024x16x64, .f32⟩
  | .hbm, ⟨18, _⟩ => ⟨S16x64x1024, .f32⟩
  | .hbm, ⟨19, _⟩ => ⟨S1024x16x64, .f32⟩
  | .hbm, ⟨20, _⟩ => ⟨S2x64x1024, .f32⟩
  | .hbm, ⟨21, _⟩ => ⟨S1024x2x64, .f32⟩
  | .hbm, ⟨22, _⟩ => ⟨S2x256x1024, .f32⟩
  | .hbm, ⟨23, _⟩ => ⟨S1024x2x256, .f32⟩
  | .hbm, ⟨24, _⟩ => ⟨S1024x16x2, .f32⟩
  | .hbm, ⟨25, _⟩ => ⟨S_, .f32⟩
  | .hbm, ⟨26, _⟩ => ⟨S1024x16x2, .f32⟩
  | .hbm, ⟨27, _⟩ => ⟨S1024x16x2, .f32⟩
  | .hbm, ⟨28, _⟩ => ⟨S_, .f32⟩
  | .hbm, ⟨29, _⟩ => ⟨S1024x16, .f32⟩
  | .hbm, ⟨30, _⟩ => ⟨S_, .f32⟩
  | .hbm, ⟨31, _⟩ => ⟨S1024x16, .f32⟩
  | .hbm, ⟨32, _⟩ => ⟨S1024x16, .f32⟩
  | .hbm, ⟨33, _⟩ => ⟨S1024x16x1, .f32⟩
  | .hbm, ⟨34, _⟩ => ⟨S1024x16x2, .f32⟩
  | .hbm, ⟨35, _⟩ => ⟨S1024x16x2, .f32⟩
  | .hbm, ⟨36, _⟩ => ⟨S1024x16x2, .f32⟩
  | .hbm, ⟨37, _⟩ => ⟨S_, .f32⟩
  | .hbm, ⟨38, _⟩ => ⟨S1024x16, .f32⟩
  | .hbm, ⟨39, _⟩ => ⟨S1024x16x1, .f32⟩
  | .hbm, ⟨40, _⟩ => ⟨S1024x16x2, .f32⟩
  | .hbm, ⟨41, _⟩ => ⟨S1024x16x2, .f32⟩
  | .hbm, ⟨42, _⟩ => ⟨S1024x16x256, .f32⟩
  | .hbm, ⟨43, _⟩ => ⟨S1024x4096, .f32⟩
  | .hbm, ⟨44, _⟩ => ⟨S1024x16x1, .f32⟩
  | .hbm, ⟨45, _⟩ => ⟨S1024x16, .f32⟩
  | .hbm, ⟨46, _⟩ => ⟨S1024x8, .f32⟩
  | .hbm, ⟨47, _⟩ => ⟨S1024x8, .i32⟩
  | .hbm, ⟨48, _⟩ => ⟨S_, .f32⟩
  | .hbm, ⟨49, _⟩ => ⟨S1024x16, .f32⟩
  | .hbm, ⟨50, _⟩ => ⟨S1024, .i32⟩
  | .hbm, ⟨51, _⟩ => ⟨S1024x1, .i32⟩
  | .hbm, ⟨52, _⟩ => ⟨S_, .i32⟩
  | .hbm, ⟨53, _⟩ => ⟨S1024x1, .i32⟩
  | .hbm, ⟨54, _⟩ => ⟨S1024x1, .i1⟩
  | .hbm, ⟨55, _⟩ => ⟨S_, .i32⟩
  | .hbm, ⟨56, _⟩ => ⟨S1024x1, .i32⟩
  | .hbm, ⟨57, _⟩ => ⟨S1024x1, .i32⟩
  | .hbm, ⟨58, _⟩ => ⟨S1024x1, .i32⟩
  | .hbm, ⟨59, _⟩ => ⟨S_, .i32⟩
  | .hbm, ⟨60, _⟩ => ⟨S1024x8, .i32⟩
  | .hbm, ⟨61, _⟩ => ⟨S1024x8, .i1⟩
  | .hbm, ⟨62, _⟩ => ⟨S_, .i32⟩
  | .hbm, ⟨63, _⟩ => ⟨S1024x8, .i32⟩
  | .hbm, ⟨64, _⟩ => ⟨S1024x8, .i32⟩
  | .hbm, ⟨65, _⟩ => ⟨S1024x8, .i32⟩
  | .hbm, ⟨66, _⟩ => ⟨S1024x8, .i32⟩
  | .hbm, ⟨67, _⟩ => ⟨S1024x8x1, .i32⟩
  | .hbm, ⟨68, _⟩ => ⟨S1024x8x1, .i32⟩
  | .hbm, ⟨69, _⟩ => ⟨S1024x8x2, .i32⟩
  | .hbm, ⟨70, _⟩ => ⟨S_, .f32⟩
  | .hbm, ⟨71, _⟩ => ⟨S1024x8, .f32⟩
  | .hbm, ⟨72, _⟩ => ⟨S1024x16, .f32⟩
  | .hbm, ⟨73, _⟩ => ⟨S1024x16x1, .f32⟩
  | .hbm, ⟨74, _⟩ => ⟨S1024x16x1x64, .f32⟩
  | .hbm, ⟨75, _⟩ => ⟨S1024x16x64, .f32⟩
  | .hbm, ⟨76, _⟩ => ⟨S1024x1024, .f32⟩
  | .hbm, ⟨77, _⟩ => ⟨S4096x3072, .f32⟩
  | .hbm, ⟨78, _⟩ => ⟨S1024x3072, .f32⟩
  | .hbm, ⟨79, _⟩ => ⟨S1x3072, .f32⟩
  | .hbm, ⟨80, _⟩ => ⟨S1024x3072, .f32⟩
  | .hbm, ⟨81, _⟩ => ⟨S1024x3072, .f32⟩
  | .hbm, ⟨82, _⟩ => ⟨S1024x3072, .f32⟩
  | .hbm, ⟨83, _⟩ => ⟨S1024x3072, .f32⟩
  | .hbm, ⟨84, _⟩ => ⟨S1x3072, .f32⟩
  | .hbm, ⟨85, _⟩ => ⟨S1024x3072, .f32⟩
  | .hbm, ⟨86, _⟩ => ⟨S1024x3072, .f32⟩
  | .hbm, ⟨87, _⟩ => ⟨S1024x1024, .f32⟩
  | .hbm, ⟨88, _⟩ => ⟨S1024x1024, .f32⟩
  | .hbm, ⟨89, _⟩ => ⟨S1024x1024, .f32⟩
  | .hbm, ⟨90, _⟩ => ⟨S1024x1024, .f32⟩
  | .hbm, ⟨91, _⟩ => ⟨S1024x1024, .f32⟩
  | .hbm, ⟨92, _⟩ => ⟨S1024x1024, .f32⟩
  | .hbm, ⟨93, _⟩ => ⟨S1024x1024, .f32⟩
  | .hbm, ⟨94, _⟩ => ⟨S1024x1024, .f32⟩
  | .hbm, ⟨95, _⟩ => ⟨S1024x1024, .f32⟩
  | .hbm, ⟨96, _⟩ => ⟨S_, .f32⟩
  | .hbm, ⟨97, _⟩ => ⟨S1024x1024, .f32⟩
  | .hbm, ⟨98, _⟩ => ⟨S1024x1024, .f32⟩
  | .hbm, ⟨99, _⟩ => ⟨S_, .f32⟩
  | .hbm, ⟨100, _⟩ => ⟨S1024x1024, .f32⟩
  | .hbm, ⟨101, _⟩ => ⟨S1024x1024, .f32⟩
  | .hbm, ⟨102, _⟩ => ⟨S1024x1024, .f32⟩
  | .hbm, ⟨103, _⟩ => ⟨S1024x1024, .f32⟩
  | .hbm, ⟨104, _⟩ => ⟨S1024x1024, .f32⟩
  | .hbm, ⟨105, _⟩ => ⟨S_, .f32⟩
  | .hbm, ⟨106, _⟩ => ⟨S1024x1024, .f32⟩
  | .hbm, ⟨107, _⟩ => ⟨S1024x1024, .f32⟩
  | .hbm, ⟨108, _⟩ => ⟨S_, .f32⟩
  | .hbm, ⟨109, _⟩ => ⟨S1024x1024, .f32⟩
  | .hbm, ⟨110, _⟩ => ⟨S1024x1024, .f32⟩
  | .hbm, ⟨111, _⟩ => ⟨S1024x1024, .f32⟩
  | .hbm, ⟨112, _⟩ => ⟨S1024x1024, .f32⟩
  | .hbm, ⟨113, _⟩ => ⟨S1024x1024, .f32⟩
  | .hbm, ⟨114, _⟩ => ⟨S_, .f32⟩
  | .hbm, ⟨115, _⟩ => ⟨S1024x1024, .f32⟩
  | .hbm, ⟨116, _⟩ => ⟨S1024x1024, .f32⟩
  | .hbm, ⟨117, _⟩ => ⟨S1024x1024, .f32⟩
  | .hbm, ⟨118, _⟩ => ⟨S1024x1024, .f32⟩
  | .hbm, ⟨119, _⟩ => ⟨S1024x1024, .f32⟩
  | .hbm, ⟨120, _⟩ => ⟨S1024x1024, .f32⟩
  | .hbm, ⟨121, _⟩ => ⟨S_, .f32⟩
  | .hbm, ⟨122, _⟩ => ⟨S1024x1024, .f32⟩
  | .hbm, ⟨123, _⟩ => ⟨S1024x1024, .f32⟩
  | .hbm, ⟨124, _⟩ => ⟨S1024x1024, .f32⟩
  | .hbm, ⟨125, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_values : Ref sig .tc := ⟨.hbm, 46, rfl⟩
abbrev main_indices : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_9 : Ref sig .tc := ⟨.hbm, 96, rfl⟩
abbrev main_v73 : Ref sig .tc := ⟨.hbm, 97, rfl⟩
abbrev main_v74 : Ref sig .tc := ⟨.hbm, 98, rfl⟩
abbrev main_cst_10 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_11 : Ref sig .tc := ⟨.hbm, 105, rfl⟩
abbrev main_v80 : Ref sig .tc := ⟨.hbm, 106, rfl⟩
abbrev main_v81 : Ref sig .tc := ⟨.hbm, 107, rfl⟩
abbrev main_cst_12 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_13 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_14 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Proof.RunDefs.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow
public import Idealize.ShloMosaic.Lib.Exec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The grid point prepares the scratch buffers (the first point). -/
abbrev condA (i : grid0.Coords) : Prop := (Scalar.cmpi .ne (Scalar.extui (Scalar.cmpi .eq (BitVec.ofNat 32 (i 0).val) 0#32)) 0#32) = 1#1
/-- The grid point stores one column block of the gates' sums (points 0 to 7). -/
abbrev condB (i : grid0.Coords) : Prop := k0_cond2 i = 1#1
/-- The grid point computes one column block of the two outputs (points 8 to 11). -/
abbrev condC (i : grid0.Coords) : Prop := k0_cond3 i = 1#1

/-- A covered load of the whole buffer reads what the covering stores leave. -/
theorem readCov_whole {κ : Kind} {sp : Space} {s : Shape} {e : EltTy} (v : View sig κ sp s e) (L : List (View.Piece (Elt F) s e))
    (h : ∀ y, ∃ p ∈ L, y ∈ p.1.set) {off : Fin s.rank → ℕ} (inb : ∀ a, off a + s.size a ≤ s.size a) :
    v.readCov L (Rect.unit off s.size inb).toLoadRect = View.canon L :=
  (View.readAt_full (Val := Elt F) v (v.writes (Elt F) v.junk L) inb).trans (View.read_writes_eq_canon v v.junk L h)
/-- A load at a unit-stride rectangle reads a window of what the view reads. -/
theorem readAt_window {κ : Kind} {sp : Space} {s : Shape} {e : EltTy} (v : View sig κ sp s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl
/-- Two puts over equal contents with equal payloads are equal. -/
theorem put_congr {x y : Vec F S1024x2048 .bf16} {off : Fin S1024x2048.rank → ℕ} {u w : Vec F S1024x256 .bf16} (h : x = y) (h' : u = w) :
    VecWindow.put x off S1024x256.size u = VecWindow.put y off S1024x256.size w := by rw [h, h']
/-- The gates' sums at equal operands are equal. -/
theorem pay4_congr {a a' : Vec F S1024x4096 .bf16} {b b' : Vec F S256x4096 .f32} {d d' : Vec F S1024x1024 .bf16} {e e' : Vec F S256x1024 .f32}
    (h1 : a = a') (h2 : b = b') (h3 : d = d') (h4 : e = e') : k0_pay4 a b d e = k0_pay4 a' b' d' e' := by rw [h1, h2, h3, h4]

/-- The attention's read-out: sixteen column blocks, one per head, as the sixteen stores leave them (the last first). -/
def attL (x0 : Vec F S1024x512 .f32) (x3 : Vec F S1024x16 .f32) (x4 : Vec F S512x256 .f32) : List (View.Piece (Elt F) S1024x4096 .bf16) :=
  [ ⟨Rect.unit (s := S1024x4096) ![0, 3840] S1024x256.size inb_S1024x4096_S1024x256_0_3840, k0_pay28 (k0_pay27 (k0_pay8 x0 x4) (k0_pay9 x3))⟩,
    ⟨Rect.unit (s := S1024x4096) ![0, 3584] S1024x256.size inb_S1024x4096_S1024x256_0_3584, k0_pay26 (k0_pay8 x0 x4) (k0_pay9 x3)⟩,
    ⟨Rect.unit (s := S1024x4096) ![0, 3328] S1024x256.size inb_S1024x4096_S1024x256_0_3328, k0_pay25 (k0_pay8 x0 x4) (k0_pay9 x3)⟩,
    ⟨Rect.unit (s := S1024x4096) ![0, 3072] S1024x256.size inb_S1024x4096_S1024x256_0_3072, k0_pay24 (k0_pay8 x0 x4) (k0_pay9 x3)⟩,
    ⟨Rect.unit (s := S1024x4096) ![0, 2816] S1024x256.size inb_S1024x4096_S1024x256_0_2816, k0_pay23 (k0_pay8 x0 x4) (k0_pay9 x3)⟩,
    ⟨Rect.unit (s := S1024x4096) ![0, 2560] S1024x256.size inb_S1024x4096_S1024x256_0_2560, k0_pay22 (k0_pay8 x0 x4) (k0_pay9 x3)⟩,
    ⟨Rect.unit (s := S1024x4096) ![0, 2304] S1024x256.size inb_S1024x4096_S1024x256_0_2304, k0_pay21 (k0_pay20 (k0_pay8 x0 x4) (k0_pay9 x3))⟩,
    ⟨Rect.unit (s := S1024x4096) ![0, 2048] S1024x256.size inb_S1024x4096_S1024x256_0_2048, k0_pay19 (k0_pay8 x0 x4) (k0_pay9 x3)⟩,
    ⟨Rect.unit (s := S1024x4096) ![0, 1792] S1024x256.size inb_S1024x4096_S1024x256_0_1792, k0_pay18 (k0_pay8 x0 x4) (k0_pay9 x3)⟩,
    ⟨Rect.unit (s := S1024x4096) ![0, 1536] S1024x256.size inb_S1024x4096_S1024x256_0_1536, k0_pay17 (k0_pay8 x0 x4) (k0_pay9 x3)⟩,
    ⟨Rect.unit (s := S1024x4096) ![0, 1280] S1024x256.size inb_S1024x4096_S1024x256_0_1280, k0_pay16 (k0_pay8 x0 x4) (k0_pay9 x3)⟩,
    ⟨Rect.unit (s := S1024x4096) ![0, 1024] S1024x256.size inb_S1024x4096_S1024x256_0_1024, k0_pay15 (k0_pay8 x0 x4) (k0_pay9 x3)⟩,
    ⟨Rect.unit (s := S1024x4096) ![0, 768] S1024x256.size inb_S1024x4096_S1024x256_0_768, k0_pay14 (k0_pay13 x0 x4 x3)⟩,
    ⟨Rect.unit (s := S1024x4096) ![0, 512] S1024x256.size inb_S1024x4096_S1024x256_0_512, k0_pay12 x0 x4 x3⟩,
    ⟨Rect.unit (s := S1024x4096) ![0, 256] S1024x256.size inb_S1024x4096_S1024x256_0_256, k0_pay11 x0 x4 x3⟩,
    ⟨Rect.unit (s := S1024x4096) ![0, 0] S1024x256.size inb_S1024x4096_S1024x256_0_0, k0_pay10 x0 x4 x3⟩ ]
/-- What the preparation leaves in the read-out's scratch. -/
def attV (x0 : Vec F S1024x512 .f32) (x3 : Vec F S1024x16 .f32) (x4 : Vec F S512x256 .f32) : Vec F S1024x4096 .bf16 := View.canon (attL x0 x3 x4)
/-- What the preparation leaves in the hidden state's scratch: its copy. -/
def hxV (x1 : Vec F S1024x1024 .f32) : Vec F S1024x1024 .bf16 := k0_pay7 x1
/-- What the preparation leaves in the mask's scratch, one word per block. -/
def m16V (x2 : Vec F S1024x16 .f32) : Vec F S1024x16 .f32 :=
  k0_pay1 (k0_pay36 (k0_pay30 x2) (k0_pay31 x2) k0_pay32 k0_pay33 k0_pay34 k0_pay35) (Scalar.ofBits .f32 0x3F800000#32)

/-- The sixteen column blocks cover the read-out's scratch. -/
theorem attL_cover (x0 : Vec F S1024x512 .f32) (x3 : Vec F S1024x16 .f32) (x4 : Vec F S512x256 .f32) (y : S1024x4096.Idx) : ∃ p ∈ attL x0 x3 x4, y ∈ p.1.set :=
  View.cover_of_tiledL (attL x0 x3 x4) S1024x256.size (by sl_kernel_rfl) y

/-- The hidden state's columns the point works on. -/
def hxBlk (i : grid0.Coords) (h : condC i) (x1 : Vec F S1024x1024 .f32) : Vec F S1024x256 .f32 := (VecWindow.window x1 (k0_off4 i) S1024x256.size (k0_off4_inb i h))
/-- One column block of the updated hidden state, before the mask. -/
def newV (i : grid0.Coords) (h : condC i) (x1 : Vec F S1024x1024 .f32) (x5 : Vec F S256x4096 .f32) (x6 : Vec F S256x1024 .f32) (x7 : Vec F S1x3072 .f32) (x8 : Vec F S1x3072 .f32)
    (xs0 : Vec F S1024x4096 .bf16) (xs1 : Vec F S1024x1024 .bf16) (xs2 : Vec F S1024x2048 .bf16) : FVec F S1024x256 .f32 :=
  k0_pay40 (k0_pay3 xs1 x6)
    (k0_pay37 (VecWindow.window xs2 (k0_off2 i 0#32) S1024x256.size (k0_off2_inb i h 0)) (VecWindow.window x7 (k0_off3 i 0#32) S1x256.size (k0_off3_inb i h 0)) (VecWindow.window x8 (k0_off3 i 0#32) S1x256.size (k0_off3_inb i h 0)))
    (k0_pay38 (VecWindow.window xs2 (k0_off2 i 1024#32) S1024x256.size (k0_off2_inb i h 1)) (VecWindow.window x7 (k0_off3 i 1024#32) S1x256.size (k0_off3_inb i h 1)) (VecWindow.window x8 (k0_off3 i 1024#32) S1x256.size (k0_off3_inb i h 1)))
    (k0_pay39 (k0_pay2 xs0 x5) (VecWindow.window x7 (k0_off3 i 2048#32) S1x256.size (k0_off3_inb i h 2)))
    (VecWindow.window x8 (k0_off3 i 2048#32) S1x256.size (k0_off3_inb i h 2)) (hxBlk i h x1)
/-- One column block of the mask. -/
def maskV (i : grid0.Coords) (xs3 : Vec F S1024x16 .f32) : FVec F S1024x256 .f32 :=
  k0_pay5 (k0_pay41 (F := F) (Scalar.subi (BitVec.ofNat 32 (i 0).val) 8#32)) xs3
/-- One column block of the masked update. -/
def outV (i : grid0.Coords) (h : condC i) (x1 : Vec F S1024x1024 .f32) (x5 : Vec F S256x4096 .f32) (x6 : Vec F S256x1024 .f32) (x7 : Vec F S1x3072 .f32) (x8 : Vec F S1x3072 .f32)
    (xs0 : Vec F S1024x4096 .bf16) (xs1 : Vec F S1024x1024 .bf16) (xs2 : Vec F S1024x2048 .bf16) (xs3 : Vec F S1024x16 .f32) : FVec F S1024x256 .f32 :=
  k0_pay6 (hxBlk i h x1) (newV i h x1 x5 x6 x7 x8 xs0 xs1 xs2) (k0_pay41 (F := F) (Scalar.subi (BitVec.ofNat 32 (i 0).val) 8#32)) xs3

end Cert.KernelIdeal.Hand

end
-- ==== Proof.RunA.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow
public import Idealize.ShloMosaic.Lib.Exec
public import Idealize.ShloMosaic.Lib.Tactic.Stretches
public import proofs.«01_k».proof.Proof.RunDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (arg1 : Memref sig .tc .vmem S1024x512 .f32) (harg1 : arg1.IsWhole)
variable (arg2 : Memref sig .tc .vmem S1024x1024 .f32) (harg2 : arg2.IsWhole)
variable (arg3 : Memref sig .tc .vmem S1024x16 .f32) (harg3 : arg3.IsWhole)
variable (arg4 : Memref sig .tc .vmem S1024x16 .f32) (harg4 : arg4.IsWhole)
variable (arg5 : Memref sig .tc .vmem S512x256 .f32) (harg5 : arg5.IsWhole)
variable (arg6 : Memref sig .tc .vmem S256x4096 .f32) (harg6 : arg6.IsWhole)
variable (arg7 : Memref sig .tc .vmem S256x1024 .f32) (harg7 : arg7.IsWhole)
variable (arg8 : Memref sig .tc .vmem S1x3072 .f32) (harg8 : arg8.IsWhole)
variable (arg9 : Memref sig .tc .vmem S1x3072 .f32) (harg9 : arg9.IsWhole)
variable (arg10 : Memref sig .tc .vmem S1024x256 .f32) (harg10 : arg10.IsWhole)
variable (arg11 : Memref sig .tc .vmem S1024x256 .f32) (harg11 : arg11.IsWhole)
variable (arg12 : Memref sig .tc .vmem S1024x4096 .bf16) (harg12 : arg12.IsWhole)
variable (arg13 : Memref sig .tc .vmem S1024x1024 .bf16) (harg13 : arg13.IsWhole)
variable (arg14 : Memref sig .tc .vmem S1024x2048 .bf16) (harg14 : arg14.IsWhole)
variable (arg15 : Memref sig .tc .vmem S1024x16 .f32) (harg15 : arg15.IsWhole)

set_option maxHeartbeats 1000000 in
/-- At the first point the body fills the four scratch buffers: the read-out, the hidden state's copy, the first block of the gates' sums, the mask. -/
theorem run_A (c : Dev nD) (i : grid0.Coords) (hc0 : condA i) (hc1 : condB i) (hc2 : ¬condC i)
    (x0 : Vec F S1024x512 .f32) (x1 : Vec F S1024x1024 .f32) (x2 : Vec F S1024x16 .f32) (x3 : Vec F S1024x16 .f32) (x4 : Vec F S512x256 .f32) (x5 : Vec F S256x4096 .f32) (x6 : Vec F S256x1024 .f32) (x7 : Vec F S1x3072 .f32) (x8 : Vec F S1x3072 .f32) (d9 : Vec F S1024x256 .f32) (d10 : Vec F S1024x256 .f32) (xs2 : Vec F S1024x2048 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d9 ∗ owns (c : Thread nD τ) arg11 fullShare d10 ∗ (∃ d, owns (c : Thread nD τ) arg12 fullShare d) ∗ (∃ d, owns (c : Thread nD τ) arg13 fullShare d) ∗ owns (c : Thread nD τ) arg14 fullShare xs2 ∗ (∃ d, owns (c : Thread nD τ) arg15 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d9 ∗ owns (c : Thread nD τ) arg11 fullShare d10 ∗ owns (c : Thread nD τ) arg12 fullShare (attV x0 x3 x4) ∗ owns (c : Thread nD τ) arg13 fullShare (hxV x1) ∗ owns (c : Thread nD τ) arg14 fullShare (VecWindow.put xs2 (k0_off1 i) S1024x256.size (k0_pay4 (attV x0 x3 x4) x5 (hxV x1) x6)) ∗ owns (c : Thread nD τ) arg15 fullShare (m16V x2)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo0, %hfo0, Ho0⟩, ⟨%fo1, %hfo1, Ho1⟩, ⟨%ds0, %fs0, -, Hs0⟩, ⟨%ds1, %fs1, -, Hs1⟩, ⟨%fs2, %hfs2, Hs2⟩, ⟨%ds3, %fs3, -, Hs3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfo0; obtain rfl := harg11.eq_unread hfo1; obtain rfl := harg14.eq_unread hfs2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [Ho0]
  · iexists _; isplitr; · ipureintro; exact harg10.read_unread _
    iexact Ho0
  isplitl [Ho1]
  · iexists _; isplitr; · ipureintro; exact harg11.read_unread _
    iexact Ho1
  isplitl [Hs0]
  · iexists _; isplitr; swap; · iexact Hs0
    ipureintro
    have e1 : ∀ inb, View.readAt (Elt F) arg1.view (Rect.unit ![0, 0] S1024x512.size inb).toLoadRect (harg1.unread x0) = x0 := fun inb => (View.readAt_full _ _ inb).trans hf0
    have e4 : ∀ inb, View.readAt (Elt F) arg4.view (Rect.unit ![0, 0] S1024x16.size inb).toLoadRect (harg4.unread x3) = x3 := fun inb => (View.readAt_full _ _ inb).trans hf3
    have e5 : ∀ inb, View.readAt (Elt F) arg5.view (Rect.unit ![0, 0] S512x256.size inb).toLoadRect (harg5.unread x4) = x4 := fun inb => (View.readAt_full _ _ inb).trans hf4
    sl_open_run
    simp only [e1, e4, e5]
    first
    | (with_reducible exact View.read_writes_eq_canon _ _ (attL x0 x3 x4) (attL_cover x0 x3 x4))
    | (show _ = View.canon _
       with_reducible refine (View.read_writes_eq_canon _ _ _ ?_).trans ?_
       · exact fun y => attL_cover x0 x3 x4 y
       · rfl)
  isplitl [Hs1]
  · iexists _; isplitr; swap; · iexact Hs1
    ipureintro
    refine (View.read_writes_full _ _ _ _ _).trans ?_
    exact congrArg k0_pay7 ((View.readAt_full _ _ _).trans hf1)
  isplitl [Hs2]
  · iexists _; isplitr; swap; · iexact Hs2
    ipureintro
    have e1 : ∀ inb, View.readAt (Elt F) arg1.view (Rect.unit ![0, 0] S1024x512.size inb).toLoadRect (harg1.unread x0) = x0 := fun inb => (View.readAt_full _ _ inb).trans hf0
    have e4 : ∀ inb, View.readAt (Elt F) arg4.view (Rect.unit ![0, 0] S1024x16.size inb).toLoadRect (harg4.unread x3) = x3 := fun inb => (View.readAt_full _ _ inb).trans hf3
    have e5 : ∀ inb, View.readAt (Elt F) arg5.view (Rect.unit ![0, 0] S512x256.size inb).toLoadRect (harg5.unread x4) = x4 := fun inb => (View.readAt_full _ _ inb).trans hf4
    refine (View.read_writes_cons_put _ _ _ _ _ rfl).trans ?_
    refine put_congr hfs2 (pay4_congr ?_ ((View.readAt_full _ _ _).trans hf5) ?_ ((View.readAt_full _ _ _).trans hf6))
    · sl_open_run
      simp only [e1, e4, e5]
      exact readCov_whole _ (attL x0 x3 x4) (attL_cover x0 x3 x4) _
    · sl_open_run
      exact (View.readCov_full _ _ _ _ _).trans (congrArg k0_pay7 ((View.readAt_full _ _ _).trans hf1))
  · iexists _; isplitr; swap; · iexact Hs3
    ipureintro
    have e3 : ∀ inb, View.readAt (Elt F) arg3.view (Rect.unit ![0, 0] S1024x16.size inb).toLoadRect (harg3.unread x2) = x2 := fun inb => (View.readAt_full _ _ inb).trans hf2
    refine (View.read_writes_full _ _ _ _ _).trans ?_
    sl_open_run
    simp only [e3]
    rfl

end Cert.KernelIdeal.Hand

end
-- ==== Proof.RunB.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow
public import Idealize.ShloMosaic.Lib.Exec
public import proofs.«01_k».proof.Proof.RunDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (arg1 : Memref sig .tc .vmem S1024x512 .f32) (harg1 : arg1.IsWhole)
variable (arg2 : Memref sig .tc .vmem S1024x1024 .f32) (harg2 : arg2.IsWhole)
variable (arg3 : Memref sig .tc .vmem S1024x16 .f32) (harg3 : arg3.IsWhole)
variable (arg4 : Memref sig .tc .vmem S1024x16 .f32) (harg4 : arg4.IsWhole)
variable (arg5 : Memref sig .tc .vmem S512x256 .f32) (harg5 : arg5.IsWhole)
variable (arg6 : Memref sig .tc .vmem S256x4096 .f32) (harg6 : arg6.IsWhole)
variable (arg7 : Memref sig .tc .vmem S256x1024 .f32) (harg7 : arg7.IsWhole)
variable (arg8 : Memref sig .tc .vmem S1x3072 .f32) (harg8 : arg8.IsWhole)
variable (arg9 : Memref sig .tc .vmem S1x3072 .f32) (harg9 : arg9.IsWhole)
variable (arg10 : Memref sig .tc .vmem S1024x256 .f32) (harg10 : arg10.IsWhole)
variable (arg11 : Memref sig .tc .vmem S1024x256 .f32) (harg11 : arg11.IsWhole)
variable (arg12 : Memref sig .tc .vmem S1024x4096 .bf16) (harg12 : arg12.IsWhole)
variable (arg13 : Memref sig .tc .vmem S1024x1024 .bf16) (harg13 : arg13.IsWhole)
variable (arg14 : Memref sig .tc .vmem S1024x2048 .bf16) (harg14 : arg14.IsWhole)
variable (arg15 : Memref sig .tc .vmem S1024x16 .f32) (harg15 : arg15.IsWhole)

set_option maxHeartbeats 1000000 in
/-- At a point that only stores a block of the gates' sums, the body leaves every buffer as found but the gates' scratch, which has the block of sums put over its columns. -/
theorem run_B (c : Dev nD) (i : grid0.Coords) (hc0 : ¬condA i) (hc1 : condB i) (hc2 : ¬condC i)
    (x0 : Vec F S1024x512 .f32) (x1 : Vec F S1024x1024 .f32) (x2 : Vec F S1024x16 .f32) (x3 : Vec F S1024x16 .f32) (x4 : Vec F S512x256 .f32) (x5 : Vec F S256x4096 .f32) (x6 : Vec F S256x1024 .f32) (x7 : Vec F S1x3072 .f32) (x8 : Vec F S1x3072 .f32) (d9 : Vec F S1024x256 .f32) (d10 : Vec F S1024x256 .f32) (xs0 : Vec F S1024x4096 .bf16) (xs1 : Vec F S1024x1024 .bf16) (xs2 : Vec F S1024x2048 .bf16) (xs3 : Vec F S1024x16 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d9 ∗ owns (c : Thread nD τ) arg11 fullShare d10 ∗ owns (c : Thread nD τ) arg12 fullShare xs0 ∗ owns (c : Thread nD τ) arg13 fullShare xs1 ∗ owns (c : Thread nD τ) arg14 fullShare xs2 ∗ owns (c : Thread nD τ) arg15 fullShare xs3
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d9 ∗ owns (c : Thread nD τ) arg11 fullShare d10 ∗ owns (c : Thread nD τ) arg12 fullShare xs0 ∗ owns (c : Thread nD τ) arg13 fullShare xs1 ∗ owns (c : Thread nD τ) arg14 fullShare (VecWindow.put xs2 (k0_off1 i) S1024x256.size (k0_pay4 xs0 x5 xs1 x6)) ∗ owns (c : Thread nD τ) arg15 fullShare xs3) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo0, %hfo0, Ho0⟩, ⟨%fo1, %hfo1, Ho1⟩, ⟨%fs0, %hfs0, Hs0⟩, ⟨%fs1, %hfs1, Hs1⟩, ⟨%fs2, %hfs2, Hs2⟩, ⟨%fs3, %hfs3, Hs3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfo0; obtain rfl := harg11.eq_unread hfo1; obtain rfl := harg12.eq_unread hfs0; obtain rfl := harg13.eq_unread hfs1; obtain rfl := harg14.eq_unread hfs2; obtain rfl := harg15.eq_unread hfs3
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [Ho0]
  · iexists _; isplitr; · ipureintro; exact harg10.read_unread _
    iexact Ho0
  isplitl [Ho1]
  · iexists _; isplitr; · ipureintro; exact harg11.read_unread _
    iexact Ho1
  isplitl [Hs0]
  · iexists _; isplitr; · ipureintro; exact harg12.read_unread _
    iexact Hs0
  isplitl [Hs1]
  · iexists _; isplitr; · ipureintro; exact harg13.read_unread _
    iexact Hs1
  isplitl [Hs2]
  · iexists _; isplitr; swap; · iexact Hs2
    ipureintro
    refine (View.read_writes_cons_put _ _ _ _ _ rfl).trans ?_
    exact put_congr hfs2 (pay4_congr ((View.readAt_full _ _ _).trans hfs0) ((View.readAt_full _ _ _).trans hf5) ((View.readAt_full _ _ _).trans hfs1) ((View.readAt_full _ _ _).trans hf6))
  · iexists _; isplitr; · ipureintro; exact harg15.read_unread _
    iexact Hs3

end Cert.KernelIdeal.Hand

end
-- ==== Proof.RunC.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow
public import Idealize.ShloMosaic.Lib.Exec
public import Idealize.ShloMosaic.Lib.Tactic.Stretches
public import proofs.«01_k».proof.Proof.RunDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (arg1 : Memref sig .tc .vmem S1024x512 .f32) (harg1 : arg1.IsWhole)
variable (arg2 : Memref sig .tc .vmem S1024x1024 .f32) (harg2 : arg2.IsWhole)
variable (arg3 : Memref sig .tc .vmem S1024x16 .f32) (harg3 : arg3.IsWhole)
variable (arg4 : Memref sig .tc .vmem S1024x16 .f32) (harg4 : arg4.IsWhole)
variable (arg5 : Memref sig .tc .vmem S512x256 .f32) (harg5 : arg5.IsWhole)
variable (arg6 : Memref sig .tc .vmem S256x4096 .f32) (harg6 : arg6.IsWhole)
variable (arg7 : Memref sig .tc .vmem S256x1024 .f32) (harg7 : arg7.IsWhole)
variable (arg8 : Memref sig .tc .vmem S1x3072 .f32) (harg8 : arg8.IsWhole)
variable (arg9 : Memref sig .tc .vmem S1x3072 .f32) (harg9 : arg9.IsWhole)
variable (arg10 : Memref sig .tc .vmem S1024x256 .f32) (harg10 : arg10.IsWhole)
variable (arg11 : Memref sig .tc .vmem S1024x256 .f32) (harg11 : arg11.IsWhole)
variable (arg12 : Memref sig .tc .vmem S1024x4096 .bf16) (harg12 : arg12.IsWhole)
variable (arg13 : Memref sig .tc .vmem S1024x1024 .bf16) (harg13 : arg13.IsWhole)
variable (arg14 : Memref sig .tc .vmem S1024x2048 .bf16) (harg14 : arg14.IsWhole)
variable (arg15 : Memref sig .tc .vmem S1024x16 .f32) (harg15 : arg15.IsWhole)

set_option maxHeartbeats 1000000 in
/-- At a point that computes a column block of the outputs, the body leaves that block of the masked update and of the mask in the two output buffers and every other buffer as found. -/
theorem run_C (c : Dev nD) (i : grid0.Coords) (hc0 : ¬condA i) (hc1 : ¬condB i) (hc2 : condC i)
    (x0 : Vec F S1024x512 .f32) (x1 : Vec F S1024x1024 .f32) (x2 : Vec F S1024x16 .f32) (x3 : Vec F S1024x16 .f32) (x4 : Vec F S512x256 .f32) (x5 : Vec F S256x4096 .f32) (x6 : Vec F S256x1024 .f32) (x7 : Vec F S1x3072 .f32) (x8 : Vec F S1x3072 .f32) (xs0 : Vec F S1024x4096 .bf16) (xs1 : Vec F S1024x1024 .bf16) (xs2 : Vec F S1024x2048 .bf16) (xs3 : Vec F S1024x16 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outV i hc2 x1 x5 x6 x7 x8 xs0 xs1 xs2 xs3) ∗ owns (c : Thread nD τ) arg11 fullShare (maskV i xs3) ∗ owns (c : Thread nD τ) arg12 fullShare xs0 ∗ owns (c : Thread nD τ) arg13 fullShare xs1 ∗ owns (c : Thread nD τ) arg14 fullShare xs2 ∗ owns (c : Thread nD τ) arg15 fullShare xs3) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  simp only [k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do0, %fo0, -, Ho0⟩, ⟨%do1, %fo1, -, Ho1⟩, ⟨%fs0, %hfs0, Hs0⟩, ⟨%fs1, %hfs1, Hs1⟩, ⟨%fs2, %hfs2, Hs2⟩, ⟨%fs3, %hfs3, Hs3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0; obtain rfl := harg13.eq_unread hfs1; obtain rfl := harg14.eq_unread hfs2; obtain rfl := harg15.eq_unread hfs3
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [Ho0]
  · iexists _; isplitr; swap; · iexact Ho0
    ipureintro
    refine (View.read_writes_full _ _ _ _ _).trans ?_
    have e15 : ∀ inb, View.readAt (Elt F) arg15.view (Rect.unit ![0, 0] S1024x16.size inb).toLoadRect (harg15.unread xs3) = xs3 := fun inb => (View.readAt_full _ _ inb).trans hfs3
    have e12 : ∀ inb, View.readAt (Elt F) arg12.view (Rect.unit ![0, 0] S1024x4096.size inb).toLoadRect (harg12.unread xs0) = xs0 := fun inb => (View.readAt_full _ _ inb).trans hfs0
    have e13 : ∀ inb, View.readAt (Elt F) arg13.view (Rect.unit ![0, 0] S1024x1024.size inb).toLoadRect (harg13.unread xs1) = xs1 := fun inb => (View.readAt_full _ _ inb).trans hfs1
    have e6 : ∀ inb, View.readAt (Elt F) arg6.view (Rect.unit ![0, 0] S256x4096.size inb).toLoadRect (harg6.unread x5) = x5 := fun inb => (View.readAt_full _ _ inb).trans hf5
    have e7 : ∀ inb, View.readAt (Elt F) arg7.view (Rect.unit ![0, 0] S256x1024.size inb).toLoadRect (harg7.unread x6) = x6 := fun inb => (View.readAt_full _ _ inb).trans hf6
    sl_open_run
    simp only [e15, e12, e13, e6, e7, readAt_window, hfs2, hf7, hf8, hf1]
    rfl
  isplitl [Ho1]
  · iexists _; isplitr; swap; · iexact Ho1
    ipureintro
    refine (View.read_writes_full _ _ _ _ _).trans ?_
    exact congrArg (k0_pay5 _) ((View.readAt_full _ _ _).trans hfs3)
  isplitl [Hs0]
  · iexists _; isplitr; · ipureintro; exact harg12.read_unread _
    iexact Hs0
  isplitl [Hs1]
  · iexists _; isplitr; · ipureintro; exact harg13.read_unread _
    iexact Hs1
  isplitl [Hs2]
  · iexists _; isplitr; · ipureintro; exact harg14.read_unread _
    iexact Hs2
  · iexists _; isplitr; · ipureintro; exact harg15.read_unread _
    iexact Hs3

end Cert.KernelIdeal.Hand

end
-- ==== Proof.RunAll.lean ====
module

public import proofs.«01_k».proof.Proof.RunA
public import proofs.«01_k».proof.Proof.RunB
public import proofs.«01_k».proof.Proof.RunC
-- ==== Proof.Body.lean ====
module

public import proofs.«01_k».proof.Proof.RunAll
public import Idealize.ShloMosaic.Lib.ValueIdx

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points, their conditions and their buffers -/

/-- The preparation runs at the first point only. -/
theorem hcondA : ∀ t : Fin cfg0.N, condA (grid0.coords t) ↔ t.val = 0 :=
  (by decide +kernel : ∀ t : Fin grid0.N, condA (grid0.coords t) ↔ t.val = 0)
/-- A block of the gates' sums is stored at the points before point 8. -/
theorem hcondB : ∀ t : Fin cfg0.N, condB (grid0.coords t) ↔ t.val < 8 :=
  (by decide +kernel : ∀ t : Fin grid0.N, condB (grid0.coords t) ↔ t.val < 8)
/-- A block of the outputs is computed at the points from point 8 on. -/
theorem hcondC : ∀ t : Fin cfg0.N, condC (grid0.coords t) ↔ 8 ≤ t.val :=
  (by decide +kernel : ∀ t : Fin grid0.N, condC (grid0.coords t) ↔ 8 ≤ t.val)
/-- The grid's only coordinate is the point's number. -/
theorem coords_val : ∀ t : Fin cfg0.N, (grid0.coords t 0).val = t.val :=
  (by decide +kernel : ∀ t : Fin grid0.N, (grid0.coords t 0).val = t.val)
/-- Neither output is written back before point 8. -/
theorem flush9 : ∀ t : Fin cfg0.N, t.val < 8 → (cfg0.win 9).flush t = false :=
  (by decide +kernel : ∀ t : Fin grid0.N, t.val < 8 → win0_9.flush t = false)
theorem flush10 : ∀ t : Fin cfg0.N, t.val < 8 → (cfg0.win 10).flush t = false :=
  (by decide +kernel : ∀ t : Fin grid0.N, t.val < 8 → win0_10.flush t = false)
/-- Both outputs are idle before point 8 and live from it on. -/
theorem idle9 (t : Fin cfg0.N) (h : ¬condC (grid0.coords t)) : cfg0.idle 9 (grid0.coords t) = true := by
  show (!(k0_cond3 (grid0.coords t) == 1#1)) = true
  simpa using h
theorem idle10 (t : Fin cfg0.N) (h : ¬condC (grid0.coords t)) : cfg0.idle 10 (grid0.coords t) = true := idle9 t h
theorem live9 (t : Fin cfg0.N) (h : condC (grid0.coords t)) : cfg0.idle 9 (grid0.coords t) = false := by
  show (!(k0_cond3 (grid0.coords t) == 1#1)) = false
  simpa using h
theorem live10 (t : Fin cfg0.N) (h : condC (grid0.coords t)) : cfg0.idle 10 (grid0.coords t) = false := live9 t h

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x3072 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3072 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x256 .f32 := win0_10.stage (cfg0.slots t 10)
abbrev hs0_10 (t : Fin cfg0.N) : (ms0_10 t).IsWhole := hstage0_10 ((cfg0.slots t 10).cast nbuf0_10)
abbrev scM0_0 : Memref sig .tc .vmem S1024x4096 .bf16 := Memref.whole cc0_scratch0
abbrev scM0_1 : Memref sig .tc .vmem S1024x1024 .bf16 := Memref.whole cc0_scratch1
abbrev scM0_2 : Memref sig .tc .vmem S1024x2048 .bf16 := Memref.whole cc0_scratch2
abbrev scM0_3 : Memref sig .tc .vmem S1024x16 .f32 := Memref.whole cc0_scratch3

/-- The class's invariant with the four scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What the scratch buffers hold -/

/-- The first point. -/
def tA : Fin cfg0.N := ⟨0, by show 0 < grid0.N; rw [N_0]; decide⟩
/-- The read-out's scratch after the first point. -/
def attS (c : Dev nD) : Vec F S1024x4096 .bf16 := attV (iblk m c 0 tA) (iblk m c 3 tA) (iblk m c 4 tA)
/-- The hidden state's scratch after the first point. -/
def hxS (c : Dev nD) : Vec F S1024x1024 .bf16 := hxV (iblk m c 1 tA)
/-- The mask's scratch after the first point. -/
def m16S (c : Dev nD) : Vec F S1024x16 .f32 := m16V (iblk m c 2 tA)
/-- The block of the gates' sums stored at point `t`. -/
def sumS (c : Dev nD) (t : Fin cfg0.N) : Vec F S1024x256 .bf16 := k0_pay4 (attS m c) (iblk m c 5 t) (hxS m c) (iblk m c 6 t)
/-- The point that stores a column of the gates' sums. -/
def ptOf (y : S1024x2048.Idx) : Fin cfg0.N := ⟨(y 1).val / 256, by
  show _ < grid0.N; rw [N_0]; have h : (y 1).val < 2048 := (y 1).isLt; omega⟩
/-- The gates' sums once all eight blocks are stored. -/
def gatesS (c : Dev nD) : Vec F S1024x2048 .bf16 :=
  fun y => sumS m c (ptOf y) (ix2 (⟨(y 0).val, (y 0).isLt⟩ : Fin 1024) (⟨(y 1).val % 256, Nat.mod_lt _ (by decide)⟩ : Fin 256))
/-- The first `n` blocks of the gates' sums are stored. -/
def gOk (c : Dev nD) (n : ℕ) (d : Vec F S1024x2048 .bf16) : Prop := ∀ y : S1024x2048.Idx, (y 1).val < 256 * n → d y = gatesS m c y

theorem gOk_zero (c : Dev nD) (d : Vec F S1024x2048 .bf16) : gOk m c 0 d := fun y h => absurd h (by omega)
theorem gOk_all (c : Dev nD) (n : ℕ) (hn : 8 ≤ n) (d : Vec F S1024x2048 .bf16) (h : gOk m c n d) : d = gatesS m c :=
  funext fun y => h y (by have h : (y 1).val < 2048 := (y 1).isLt; omega)
theorem gOk_all_mono (c : Dev nD) (n n' : ℕ) (hn : 8 ≤ n) (d : Vec F S1024x2048 .bf16) (h : gOk m c n d) : gOk m c n' d :=
  fun y _ => h y (by have h : (y 1).val < 2048 := (y 1).isLt; omega)
/-- Storing point `t`'s block extends the stored blocks by one. -/
theorem gOk_succ (c : Dev nD) (t : Fin cfg0.N) (d : Vec F S1024x2048 .bf16) (h : gOk m c t.val d) :
    gOk m c (t.val + 1) (VecWindow.put d (k0_off1 (grid0.coords t)) S1024x256.size (sumS m c t)) := by
  intro y hy
  rw [k0_off1_eq, coords_val t]
  unfold VecWindow.put
  have hy0 : (y 0).val < 1024 := (y 0).isLt
  by_cases hlt : (y 1).val < 256 * t.val
  · rw [dif_neg (fun hh => by have h1 := (hh 1).1; have h2 : 256 * t.val ≤ (y 1).val := h1; omega)]
    exact h y hlt
  · have hin : ∀ a, (![0, 256 * t.val] : Fin 2 → ℕ) a ≤ (y a).val ∧ (y a).val < (![0, 256 * t.val] : Fin 2 → ℕ) a + S1024x256.size a := by
      intro a
      match a with
      | 0 => exact ⟨Nat.zero_le _, by show (y 0).val < 0 + 1024; omega⟩
      | 1 => exact ⟨by show 256 * t.val ≤ (y 1).val; omega, by show (y 1).val < 256 * t.val + 256; omega⟩
    refine (dif_pos hin).trans ?_
    have ht : ptOf y = t := Fin.ext (by show (y 1).val / 256 = t.val; omega)
    unfold gatesS
    rw [ht]
    refine congrArg (sumS m c t) (funext fun a => Fin.ext ?_)
    match a with
    | 0 => show (y 0).val - 0 = (y 0).val; omega
    | 1 => show (y 1).val - 256 * t.val = (y 1).val % 256; omega

/-! ## What the two output buffers hold at a point that computes them -/

/-- The block of the masked update computed at point `t`. -/
def o9 (c : Dev nD) (t : Fin cfg0.N) (h : condC (grid0.coords t)) : Vec F S1024x256 .f32 :=
  outV (grid0.coords t) h (iblk m c 1 t) (iblk m c 5 t) (iblk m c 6 t) (iblk m c 7 t) (iblk m c 8 t) (attS m c) (hxS m c) (gatesS m c) (m16S m c)
/-- The block of the mask computed at point `t`. -/
def o10 (c : Dev nD) (t : Fin cfg0.N) : Vec F S1024x256 .f32 := maskV (grid0.coords t) (m16S m c)

/-! ## The invariant and the proof data -/

/-- Before the first point the scratch holds anything; after point `n` the read-out, the hidden state's copy and the mask, and the blocks of the gates' sums stored so far. -/
def PhiS (c : Dev nD) : (n : ℕ) → n ≤ cfg0.N → sProp 𝕄
  | 0, _ => Pipeline.ΦA spec0 c
  | n + 1, _ => iprop(iprop(owns (c : Thread nD τ) scM0_0 fullShare (attS m c) ∗ owns (c : Thread nD τ) scM0_1 fullShare (hxS m c) ∗ (∃ d, ⌜gOk m c (n + 1) d⌝ ∗ owns (c : Thread nD τ) scM0_2 fullShare d) ∗ owns (c : Thread nD τ) scM0_3 fullShare (m16S m c)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (attS m c) ∗ owns (c : Thread nD τ) scM0_1 fullShare (hxS m c) ∗ (∃ d, ⌜gOk m c (n + 1) d⌝ ∗ owns (c : Thread nD τ) scM0_2 fullShare d) ∗ owns (c : Thread nD τ) scM0_3 fullShare (m16S m c)) ∗ (∃ r, prngReg c r)) := rfl
theorem PhiS_pos (c : Dev nD) (n : ℕ) (h : n ≤ cfg0.N) (hz : n ≠ 0) :
    PhiS m c n h = iprop(iprop(owns (c : Thread nD τ) scM0_0 fullShare (attS m c) ∗ owns (c : Thread nD τ) scM0_1 fullShare (hxS m c) ∗ (∃ d, ⌜gOk m c n d⌝ ∗ owns (c : Thread nD τ) scM0_2 fullShare d) ∗ owns (c : Thread nD τ) scM0_3 fullShare (m16S m c)) ∗ (∃ r, prngReg c r)) := by
  cases n with
  | zero => exact absurd rfl hz
  | succ n => rfl

/-- The proof data: each input's buffer at its block, the two outputs' at the blocks computed (from point 8 on), the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => if h : condC (grid0.coords t) then o9 m c t h else o10 m c t
    | ⟨10, _⟩ => o10 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) (h : condC (grid0.coords t)) : (dats m 0 c).after 9 t = o9 m c t h := by dsimp only [dats]; exact dif_pos h
theorem after0_10 (c : Dev nD) (t : Fin cfg0.N) : (dats m 0 c).after 10 t = o10 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The body at the first point. -/
theorem body_A (c : Dev nD) (t : Fin cfg0.N) (hz : t.val = 0) : bodyPre m c t ⊢ wp frame (wpE (defs₀ (F := F)) Variants.none c none) Set.univ (bodyAt0 t) (fun _ => bodyPost m c t) := by
  obtain rfl : t = tA := Fin.ext hz
  have h0 : condA (grid0.coords tA) := (hcondA tA).mpr rfl
  have h1 : condB (grid0.coords tA) := (hcondB tA).mpr (by decide)
  have h2 : ¬condC (grid0.coords tA) := fun h => absurd ((hcondC tA).mp h) (by decide)
  unfold bodyPre bodyPost bodyAt0
  simp only [before0_0, before0_1, before0_2, before0_3, before0_4, before0_5, before0_6, before0_7, before0_8]
  rw [show (dats m 0 c).owesAt () tA.succ = (dats m 0 c).owesAt () tA.castSucc from rfl]
  rw [show (dats m 0 c).Φ tA.succ = PhiS m c (tA.val + 1) tA.isLt from rfl, PhiS_succ]
  rw [Dat.leavesExact_idle _ 9 tA (idle9 tA h2) (flush9 tA (by decide)), Dat.leavesExact_idle _ 10 tA (idle10 tA h2) (flush10 tA (by decide))]
  rw [show (dats m 0 c).leavesExact 0 tA = owns (c : Thread nD τ) (ms0_0 tA) fullShare ((dats m 0 c).after 0 tA) from rfl, after0_0]
  rw [show (dats m 0 c).leavesExact 1 tA = owns (c : Thread nD τ) (ms0_1 tA) fullShare ((dats m 0 c).after 1 tA) from rfl, after0_1]
  rw [show (dats m 0 c).leavesExact 2 tA = owns (c : Thread nD τ) (ms0_2 tA) fullShare ((dats m 0 c).after 2 tA) from rfl, after0_2]
  rw [show (dats m 0 c).leavesExact 3 tA = owns (c : Thread nD τ) (ms0_3 tA) fullShare ((dats m 0 c).after 3 tA) from rfl, after0_3]
  rw [show (dats m 0 c).leavesExact 4 tA = owns (c : Thread nD τ) (ms0_4 tA) fullShare ((dats m 0 c).after 4 tA) from rfl, after0_4]
  rw [show (dats m 0 c).leavesExact 5 tA = owns (c : Thread nD τ) (ms0_5 tA) fullShare ((dats m 0 c).after 5 tA) from rfl, after0_5]
  rw [show (dats m 0 c).leavesExact 6 tA = owns (c : Thread nD τ) (ms0_6 tA) fullShare ((dats m 0 c).after 6 tA) from rfl, after0_6]
  rw [show (dats m 0 c).leavesExact 7 tA = owns (c : Thread nD τ) (ms0_7 tA) fullShare ((dats m 0 c).after 7 tA) from rfl, after0_7]
  rw [show (dats m 0 c).leavesExact 8 tA = owns (c : Thread nD τ) (ms0_8 tA) fullShare ((dats m 0 c).after 8 tA) from rfl, after0_8]
  rw [PhiS_castSucc m c tA, PhiS_zero m c tA.val _ hz, PhiA0_eq]
  iintro ⟨⟨⟨HS0, HS1, ⟨%dg, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_A _ _ _ _ _ _ _ _ _ _ _ _ _ _ _ _ _ _ _ _ _ _ _ _ _ _ _ _ _ _ c (grid0.coords tA) h0 h1 h2 (iblk m c 0 tA) (iblk m c 1 tA) (iblk m c 2 tA) (iblk m c 3 tA) (iblk m c 4 tA) (iblk m c 5 tA) (iblk m c 6 tA) (iblk m c 7 tA) (iblk m c 8 tA) _ _ dg Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, H8, H9, H10, HS0, HS1, HS2, HS3⟩
  isplitl [HS0 HS1 HS2 HS3 Hg]
  · isplitl [HS0 HS1 HS2 HS3]
    · isplitl [HS0]; · iexact HS0
      isplitl [HS1]; · iexact HS1
      isplitl [HS2]
      · iexists _; isplitr; swap; · iexact HS2
        ipureintro; exact gOk_succ m c tA dg (gOk_zero m c dg)
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

/-- The body at a point that stores a block of the gates' sums, after the first. -/
theorem body_B (c : Dev nD) (t : Fin cfg0.N) (hz : t.val ≠ 0) (h8 : t.val < 8) : bodyPre m c t ⊢ wp frame (wpE (defs₀ (F := F)) Variants.none c none) Set.univ (bodyAt0 t) (fun _ => bodyPost m c t) := by
  have h0 : ¬condA (grid0.coords t) := fun h => hz ((hcondA t).mp h)
  have h1 : condB (grid0.coords t) := (hcondB t).mpr h8
  have h2 : ¬condC (grid0.coords t) := fun h => absurd ((hcondC t).mp h) (by omega)
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [Dat.leavesExact_idle _ 9 t (idle9 t h2) (flush9 t h8), Dat.leavesExact_idle _ 10 t (idle10 t h2) (flush10 t h8)]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  rw [show (dats m 0 c).leavesExact 7 t = owns (c : Thread nD τ) (ms0_7 t) fullShare ((dats m 0 c).after 7 t) from rfl, after0_7]
  rw [show (dats m 0 c).leavesExact 8 t = owns (c : Thread nD τ) (ms0_8 t) fullShare ((dats m 0 c).after 8 t) from rfl, after0_8]
  rw [PhiS_castSucc m c t, PhiS_pos m c _ _ hz]
  iintro ⟨⟨⟨HS0, HS1, ⟨%dg, %hdg, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_B _ _ _ _ _ _ _ _ _ _ _ _ _ _ _ _ _ _ _ _ _ _ _ _ _ _ _ _ _ _ c (grid0.coords t) h0 h1 h2 (iblk m c 0 t) (iblk m c 1 t) (iblk m c 2 t) (iblk m c 3 t) (iblk m c 4 t) (iblk m c 5 t) (iblk m c 6 t) (iblk m c 7 t) (iblk m c 8 t) _ _ (attS m c) (hxS m c) dg (m16S m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, H8, H9, H10, HS0, HS1, HS2, HS3⟩
  isplitl [HS0 HS1 HS2 HS3 Hg]
  · isplitl [HS0 HS1 HS2 HS3]
    · isplitl [HS0]; · iexact HS0
      isplitl [HS1]; · iexact HS1
      isplitl [HS2]
      · iexists _; isplitr; swap; · iexact HS2
        ipureintro; exact gOk_succ m c t dg hdg
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

/-- The body at a point that computes a block of the outputs. -/
theorem body_C (c : Dev nD) (t : Fin cfg0.N) (h8 : 8 ≤ t.val) : bodyPre m c t ⊢ wp frame (wpE (defs₀ (F := F)) Variants.none c none) Set.univ (bodyAt0 t) (fun _ => bodyPost m c t) := by
  have h0 : ¬condA (grid0.coords t) := fun h => absurd ((hcondA t).mp h) (by omega)
  have h1 : ¬condB (grid0.coords t) := fun h => absurd ((hcondB t).mp h) (by omega)
  have h2 : condC (grid0.coords t) := (hcondC t).mpr h8
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 9 t = owns (c : Thread nD τ) (ms0_9 t) fullShare ((dats m 0 c).after 9 t) from by
    unfold Dat.leavesExact; rw [live9 t h2], after0_9 m c t h2]
  rw [show (dats m 0 c).leavesExact 10 t = owns (c : Thread nD τ) (ms0_10 t) fullShare ((dats m 0 c).after 10 t) from by
    unfold Dat.leavesExact; rw [live10 t h2], after0_10 m c t]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  rw [show (dats m 0 c).leavesExact 7 t = owns (c : Thread nD τ) (ms0_7 t) fullShare ((dats m 0 c).after 7 t) from rfl, after0_7]
  rw [show (dats m 0 c).leavesExact 8 t = owns (c : Thread nD τ) (ms0_8 t) fullShare ((dats m 0 c).after 8 t) from rfl, after0_8]
  rw [PhiS_castSucc m c t, PhiS_pos m c _ _ (by omega)]
  iintro ⟨⟨⟨HS0, HS1, ⟨%dg, %hdg, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := gOk_all m c _ h8 dg hdg
  iapply (run_C _ _ _ _ _ _ _ _ _ _ _ _ _ _ _ _ _ _ _ _ _ _ _ _ _ _ _ _ _ _ c (grid0.coords t) h0 h1 h2 (iblk m c 0 t) (iblk m c 1 t) (iblk m c 2 t) (iblk m c 3 t) (iblk m c 4 t) (iblk m c 5 t) (iblk m c 6 t) (iblk m c 7 t) (iblk m c 8 t) (attS m c) (hxS m c) (gatesS m c) (m16S m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, H6, H7, H8, H9, H10, HS0, HS1, HS2, HS3⟩
  isplitl [HS0 HS1 HS2 HS3 Hg]
  · isplitl [HS0 HS1 HS2 HS3]
    · isplitl [HS0]; · iexact HS0
      isplitl [HS1]; · iexact HS1
      isplitl [HS2]
      · iexists _; isplitr; swap; · iexact HS2
        ipureintro; exact gOk_all_mono m c _ _ h8 _ hdg
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (c : Dev nD) (t : Fin cfg0.N) : bodyPre m c t ⊢ wp frame (wpE (defs₀ (F := F)) Variants.none c none) Set.univ (bodyAt0 t) (fun _ => bodyPost m c t) := by
  by_cases hz : t.val = 0
  · exact body_A m c t hz
  by_cases h8 : t.val < 8
  · exact body_B m c t hz h8
  · exact body_C m c t (by omega)

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiS_pos m c _ _ (by have : cfg0.N = 12 := N_0; omega), PhiA0_eq]
  iintro ⟨⟨HS0, HS1, ⟨%d, -, HS2⟩, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
/-- The launch: every array ends at what the proof data say, every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Hand

end
-- ==== Proof.Quiet.lean ====
module

public import proofs.«01_k».proof.Proof.Body
public import Idealize.ShloMosaic.Lib.Claim

@[expose] public section

noncomputable section

namespace Cert.KernelIdeal.Hand

open Idealize.ShloMosaic Idealize.SL.Sem
open Cert.KernelIdeal Cert.KernelIdeal.Gen

variable {F : FTy → Type} [FloatOps F]

/-- The program runs, ends with its arguments unchanged, and every semaphore counter ends at zero. -/
theorem frame_quiet (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Hand

end
-- ==== Proof.KRunAll.lean ====
module

public import proofs.«01_k».proof.Proof.KRunA
public import proofs.«01_k».proof.Proof.KRunB
public import proofs.«01_k».proof.Proof.KRunC
-- ==== Proof.Spec.lean ====
module

public import Idealize.ShloMosaic.PureOps.Ideal.Laws
public import Idealize.ShloMosaic.Lib.IdealHost
public import Idealize.ShloMosaic.Lib.Pointwise

@[expose] public section

noncomputable section

namespace Cert.Spec

open Idealize.ShloMosaic
open scoped Classical

/-- Head `j` comes before head `i` in decreasing order of `p`, equal values in increasing order of the head. -/
def before (p : Fin 16 → EReal) (j i : Fin 16) : Prop := p i < p j ∨ (p j = p i ∧ j < i)

/-- How many heads come before head `i`. -/
def rank (p : Fin 16 → EReal) (i : Fin 16) : ℕ := (Finset.univ.filter fun j => before p j i).card

/-- The mask of head `i`: zero at the first eight heads, one at the others. -/
def mask16 (p : Fin 16 → EReal) (i : Fin 16) : EReal := if 8 ≤ rank p i then 1 else 0

/-- The count of the heads before head `i`, as a sum of ones. -/
theorem sum_before (p : Fin 16 → EReal) (i : Fin 16) : (∑ j : Fin 16, if before p j i then (1 : EReal) else 0) = ((rank p i : ℕ) : EReal) := by
  unfold rank
  exact Finset.sum_boole _ _

/-- The word of eight is eight. -/
theorem ofBits_eight : Ideal.ofBits .f32 0x41000000#32 = (((8 : ℕ) : ℝ) : EReal) := by
  simp [Ideal.ofBits, Ideal.ieee, -EReal.coe_mul]; norm_num

theorem zero_div_eight : Ideal.div 0 (((8 : ℕ) : ℝ) : EReal) = 0 := by
  simp [Ideal.div]

/-- The word of minus infinity is the least element. -/
theorem ofBits_negInf : Ideal.ofBits .f32 0xFF800000#32 = (⊥ : EReal) := by
  simp [Ideal.ofBits, Ideal.ieee]

theorem eight_le (n : ℕ) : Ideal.ofBits .f32 0x41000000#32 ≤ ((n : ℕ) : EReal) ↔ 8 ≤ n := by
  rw [ofBits_eight, EReal.coe_natCast]
  exact EReal.natCast_le_iff

/-- The comparison of the count with eight is the mask. -/
theorem mask16_eq (p : Fin 16 → EReal) (i : Fin 16) :
    (if Ideal.ofBits .f32 0x41000000#32 ≤ ∑ j : Fin 16, (if before p j i then (1 : EReal) else 0) then (1 : EReal) else 0) = mask16 p i := by
  unfold mask16
  rw [sum_before]
  exact if_congr (eight_le _) rfl rfl

/-! ## The update, entry by entry -/

/-- The attention's read-out: a head's weight times the head's value. -/
def att (P : Fin 1024 → Fin 16 → EReal) (VV : Fin 1024 → Fin 256 → EReal) (r : Fin 1024) (j : Fin 4096) : EReal :=
  P r ⟨j.val / 256, by omega⟩ * VV r ⟨j.val % 256, by omega⟩

/-- The cell's new state: the reset gate's sums and biases, the update gate's, the candidate's, and the old state. -/
def cell (s0 b0 c0 s1 b1 c1 gi bn gh cn h : EReal) : EReal :=
  (1 - Ideal.logistic (s1 + (b1 + c1))) * Ideal.tanh ((gi + bn) + Ideal.logistic (s0 + (b0 + c0)) * (gh + cn)) + Ideal.logistic (s1 + (b1 + c1)) * h

/-- The masked update. -/
def blend (μ n h : EReal) : EReal := μ * n + (1 - μ) * h

/-- A gate column's input product. -/
def gi (A : Fin 1024 → Fin 4096 → EReal) (WI : Fin 3072 → Fin 4096 → EReal) (r : Fin 1024) (k : Fin 3072) : EReal := ∑ j : Fin 4096, A r j * WI k j
/-- A gate column's hidden product. -/
def gh (HX : Fin 1024 → Fin 1024 → EReal) (WH : Fin 3072 → Fin 1024 → EReal) (r : Fin 1024) (k : Fin 3072) : EReal := ∑ j : Fin 1024, HX r j * WH k j

/-- A gate column of the candidate state, by third. -/
def col (n : Fin 3) (c : Fin 1024) : Fin 3072 := ⟨1024 * n.val + c.val, by omega⟩

/-- The updated state at a row and a column. -/
def out (M : Fin 1024 → Fin 16 → EReal) (A : Fin 1024 → Fin 4096 → EReal) (HX : Fin 1024 → Fin 1024 → EReal) (WI : Fin 3072 → Fin 4096 → EReal)
    (WH : Fin 3072 → Fin 1024 → EReal) (BI BH : Fin 3072 → EReal) (r c : Fin 1024) : EReal :=
  blend (M r ⟨c.val / 64, by omega⟩)
    (cell (gi A WI r (col 0 c) + gh HX WH r (col 0 c)) (BI (col 0 c)) (BH (col 0 c)) (gi A WI r (col 1 c) + gh HX WH r (col 1 c)) (BI (col 1 c)) (BH (col 1 c))
      (gi A WI r (col 2 c)) (BI (col 2 c)) (gh HX WH r (col 2 c)) (BH (col 2 c)) (HX r c))
    (HX r c)

/-! ## The attention's weights -/

/-- A query. -/
def qv (HX : Fin 1024 → Fin 1024 → EReal) (WQ : Fin 16 → Fin 64 → Fin 64 → EReal) (r : Fin 1024) (n : Fin 16) (e : Fin 64) : EReal :=
  ∑ d : Fin 64, WQ n d e * HX r ⟨n.val * 64 + d.val, by omega⟩
/-- The key of the input. -/
def kv (X : Fin 1024 → Fin 512 → EReal) (WK : Fin 512 → Fin 64 → EReal) (r : Fin 1024) (e : Fin 64) : EReal := ∑ d : Fin 512, X r d * WK d e
/-- The input's score. -/
def score (X : Fin 1024 → Fin 512 → EReal) (HX : Fin 1024 → Fin 1024 → EReal) (WQ : Fin 16 → Fin 64 → Fin 64 → EReal) (WK : Fin 512 → Fin 64 → EReal)
    (r : Fin 1024) (n : Fin 16) : EReal :=
  Ideal.div (∑ e : Fin 64, qv HX WQ r n e * kv X WK r e) (Ideal.ofBits .f32 0x41000000#32)
/-- The two exponentials of a score against zero. -/
def w0 (s : EReal) : EReal := Ideal.exp (-(max s 0))
def w1 (s : EReal) : EReal := Ideal.exp (s - max s 0)
/-- The two weights. -/
def p0 (s : EReal) : EReal := Ideal.div (w0 s) (w0 s + w1 s)
def p1 (s : EReal) : EReal := Ideal.div (w1 s) (w0 s + w1 s)

end Cert.Spec

end
-- ==== Proof.RefAtt.lean ====
module

public import proofs.«01_k».proof.Proof.Gen.ReferenceIdeal.Read
public import proofs.«01_k».proof.Proof.Spec

@[expose] public section

set_option maxRecDepth 16384

noncomputable section

namespace Cert.ReferenceIdeal.Hand

open Idealize.ShloMosaic
open Cert.ReferenceIdeal Cert.ReferenceIdeal.Gen Cert.ReferenceIdeal.Read

/-! ## The reference's stages at an index, floats as extended reals: the attention -/

section
variable (x0 : Vec Ideal S1024x512 .f32) (x1 : Vec Ideal S1024x1024 .f32) (x2 : Vec Ideal S16x64x64 .f32) (x3 : Vec Ideal S2x512x64 .f32) (x4 : Vec Ideal S2x512x256 .f32)

theorem v3_at (r : Fin 1024) (d : Fin 512) : val_main_v3 (F := Ideal) x0 (ix3 r 0 d) = x0 (ix2 r d) := by
  pointwise [val_main_v3, val_main_v2, val_main_v1, val_main_v0]
theorem v5_at0 (r : Fin 1024) (d : Fin 512) : val_main_v5 (F := Ideal) x0 (ix3 r 0 d) = 0 := by
  pointwise [val_main_v5, val_main_v4, val_main_cst]
theorem v5_at1 (r : Fin 1024) (d : Fin 512) : val_main_v5 (F := Ideal) x0 (ix3 r 1 d) = x0 (ix2 r d) := by
  rw [← v3_at x0 r d]
  pointwise [val_main_v5]
theorem v8_at (r : Fin 1024) (n : Fin 16) (e : Fin 64) :
    val_main_v8 (F := Ideal) x1 x2 (ix3 r n e) = Spec.qv (fun r d => x1 (ix2 r d)) (fun n d e => x2 (ix3 n d e)) r n e := by
  unfold Spec.qv
  pointwise [val_main_v8, val_main_v7, val_main_v6]
theorem v10_at (r : Fin 1024) (k : Fin 2) (e : Fin 64) :
    val_main_v10 (F := Ideal) x0 x3 (ix3 r k e) = ∑ d : Fin 512, x3 (ix3 k d e) * val_main_v5 (F := Ideal) x0 (ix3 r k d) := by
  pointwise [val_main_v10, val_main_v9]
theorem v10_at0 (r : Fin 1024) (e : Fin 64) : val_main_v10 (F := Ideal) x0 x3 (ix3 r 0 e) = 0 := by
  rw [v10_at]
  refine Finset.sum_eq_zero fun d _ => ?_
  rw [v5_at0, mul_zero]
theorem v10_at1 (r : Fin 1024) (e : Fin 64) :
    val_main_v10 (F := Ideal) x0 x3 (ix3 r 1 e) = Spec.kv (fun r d => x0 (ix2 r d)) (fun d e => x3 (ix3 1 d e)) r e := by
  rw [v10_at]
  unfold Spec.kv
  refine Finset.sum_congr rfl fun d _ => ?_
  rw [v5_at1, mul_comm]
theorem v12_at (r : Fin 1024) (k : Fin 2) (l : Fin 256) :
    val_main_v12 (F := Ideal) x0 x4 (ix3 r k l) = ∑ d : Fin 512, x4 (ix3 k d l) * val_main_v5 (F := Ideal) x0 (ix3 r k d) := by
  pointwise [val_main_v12, val_main_v11]
theorem v12_at0 (r : Fin 1024) (l : Fin 256) : val_main_v12 (F := Ideal) x0 x4 (ix3 r 0 l) = 0 := by
  rw [v12_at]
  refine Finset.sum_eq_zero fun d _ => ?_
  rw [v5_at0, mul_zero]
theorem v12_at1 (r : Fin 1024) (l : Fin 256) : val_main_v12 (F := Ideal) x0 x4 (ix3 r 1 l) = ∑ d : Fin 512, x0 (ix2 r d) * x4 (ix3 1 d l) := by
  rw [v12_at]
  refine Finset.sum_congr rfl fun d _ => ?_
  rw [v5_at1, mul_comm]
theorem v15_at (r : Fin 1024) (n : Fin 16) (k : Fin 2) :
    val_main_v15 (F := Ideal) x0 x1 x2 x3 (ix3 r n k)
      = Ideal.div (∑ e : Fin 64, val_main_v8 (F := Ideal) x1 x2 (ix3 r n e) * val_main_v10 (F := Ideal) x0 x3 (ix3 r k e)) (Ideal.ofBits .f32 0x41000000#32) := by
  pointwise [val_main_v15, val_main_v14, val_main_v13, val_main_cst_0]
/-- The input's score. -/
def rs (r : Fin 1024) (n : Fin 16) : EReal :=
  Spec.score (fun r d => x0 (ix2 r d)) (fun r d => x1 (ix2 r d)) (fun n d e => x2 (ix3 n d e)) (fun d e => x3 (ix3 1 d e)) r n
theorem v15_at0 (r : Fin 1024) (n : Fin 16) : val_main_v15 (F := Ideal) x0 x1 x2 x3 (ix3 r n 0) = 0 := by
  rw [v15_at, Finset.sum_eq_zero (fun e _ => by rw [v10_at0, mul_zero]), Spec.ofBits_eight]
  exact Spec.zero_div_eight
theorem v15_at1 (r : Fin 1024) (n : Fin 16) : val_main_v15 (F := Ideal) x0 x1 x2 x3 (ix3 r n 1) = rs x0 x1 x2 x3 r n := by
  rw [v15_at]
  unfold rs Spec.score
  refine congrArg (fun z => Ideal.div z _) (Finset.sum_congr rfl fun e _ => ?_)
  rw [v8_at, v10_at1]
theorem v18_at (r : Fin 1024) (n : Fin 16) : val_main_v18 (F := Ideal) x0 x1 x2 x3 (ix2 r n) = max (rs x0 x1 x2 x3 r n) 0 := by
  rw [← v15_at1, ← v15_at0 x0 x1 x2 x3 r n]
  pointwise [val_main_v18, val_main_v17, val_main_v16, val_main_cst_1, val_main_cst_2]
  rw [Spec.ofBits_negInf, show (Finset.univ : Finset (Fin 2)) = {0, 1} from rfl, Finset.fold_insert (by decide), Finset.fold_singleton]
  simp only [max_bot_left, max_bot_right, bot_sup_eq, sup_bot_eq]
  exact max_comm _ _
theorem v22_at (r : Fin 1024) (n : Fin 16) (k : Fin 2) :
    val_main_v22 (F := Ideal) x0 x1 x2 x3 (ix3 r n k) = Ideal.exp (val_main_v15 (F := Ideal) x0 x1 x2 x3 (ix3 r n k) - val_main_v18 (F := Ideal) x0 x1 x2 x3 (ix2 r n)) := by
  pointwise [val_main_v22, val_main_v21, val_main_v20, val_main_v19]
theorem v22_at0 (r : Fin 1024) (n : Fin 16) : val_main_v22 (F := Ideal) x0 x1 x2 x3 (ix3 r n 0) = Spec.w0 (rs x0 x1 x2 x3 r n) := by
  rw [v22_at, v15_at0, v18_at, zero_sub]; rfl
theorem v22_at1 (r : Fin 1024) (n : Fin 16) : val_main_v22 (F := Ideal) x0 x1 x2 x3 (ix3 r n 1) = Spec.w1 (rs x0 x1 x2 x3 r n) := by
  rw [v22_at, v15_at1, v18_at]; rfl
theorem v26_at (r : Fin 1024) (n : Fin 16) (k : Fin 2) :
    val_main_v26 (F := Ideal) x0 x1 x2 x3 (ix3 r n k) = Ideal.div (val_main_v22 (F := Ideal) x0 x1 x2 x3 (ix3 r n k))
      (val_main_v22 (F := Ideal) x0 x1 x2 x3 (ix3 r n 0) + val_main_v22 (F := Ideal) x0 x1 x2 x3 (ix3 r n 1)) := by
  pointwise [val_main_v26, val_main_v25, val_main_v24, val_main_v23, val_main_cst_3]
  rw [Fin.sum_univ_two]
theorem v26_at0 (r : Fin 1024) (n : Fin 16) : val_main_v26 (F := Ideal) x0 x1 x2 x3 (ix3 r n 0) = Spec.p0 (rs x0 x1 x2 x3 r n) := by
  rw [v26_at, v22_at0, v22_at1]; rfl
theorem v26_at1 (r : Fin 1024) (n : Fin 16) : val_main_v26 (F := Ideal) x0 x1 x2 x3 (ix3 r n 1) = Spec.p1 (rs x0 x1 x2 x3 r n) := by
  rw [v26_at, v22_at0, v22_at1]; rfl
theorem v30_at (r : Fin 1024) (n : Fin 16) : val_main_v30 (F := Ideal) x0 x1 x2 x3 (ix2 r n) = Spec.p0 (rs x0 x1 x2 x3 r n) := by
  rw [← v26_at0]
  pointwise [val_main_v30, val_main_v29]
theorem v27_at (r : Fin 1024) (n : Fin 16) (l : Fin 256) :
    val_main_v27 (F := Ideal) x0 x1 x2 x3 x4 (ix3 r n l) = ∑ k : Fin 2, val_main_v26 (F := Ideal) x0 x1 x2 x3 (ix3 r n k) * val_main_v12 (F := Ideal) x0 x4 (ix3 r k l) := by
  pointwise [val_main_v27]
/-- The read-out. -/
def rA : Fin 1024 → Fin 4096 → EReal :=
  Spec.att (fun r n => Spec.p1 (rs x0 x1 x2 x3 r n)) (fun r l => ∑ d : Fin 512, x0 (ix2 r d) * x4 (ix3 1 d l))
theorem v28_at (r : Fin 1024) (j : Fin 4096) : val_main_v28 (F := Ideal) x0 x1 x2 x3 x4 (ix2 r j) = rA x0 x1 x2 x3 x4 r j := by
  have h : val_main_v28 (F := Ideal) x0 x1 x2 x3 x4 (ix2 r j) = val_main_v27 (F := Ideal) x0 x1 x2 x3 x4 (ix3 r ⟨j.val / 256, by omega⟩ ⟨j.val % 256, by omega⟩) := by
    pointwise [val_main_v28]
  rw [h, v27_at, Fin.sum_univ_two, v12_at0, v12_at1, v26_at1, mul_zero, zero_add]
  rfl
end

end Cert.ReferenceIdeal.Hand

end
-- ==== Proof.SpecSort.lean ====
module

public import proofs.«01_k».proof.Proof.Spec
public import Idealize.ShloMosaic.Lib.SortFacts
public import Idealize.ShloMosaic.Lib.ScatterToDense.RefScatter

@[expose] public section

noncomputable section

namespace Cert.Spec

open Idealize.ShloMosaic
open scoped Classical

/-! ## The stable sort by decreasing key puts a head at its rank -/

/-- One head goes before another when its key is greater. -/
def gtB (p : Fin 16 → EReal) (a b : Fin 16) : Bool := decide (p b < p a)

theorem insert_ordered (p : Fin 16 → EReal) (a : Fin 16) (l : List (Fin 16)) (hl : l.Pairwise (before p)) (ha : ∀ b ∈ l, a < b) :
    (insertBefore (gtB p) a l).Pairwise (before p) := by
  induction l with
  | nil => exact List.pairwise_singleton _ _
  | cons b l ih =>
    rw [List.pairwise_cons] at hl
    unfold insertBefore
    split
    · rename_i h
      refine List.pairwise_cons.mpr ⟨fun c hc => ?_, ih hl.2 fun x hx => ha x (List.mem_cons_of_mem _ hx)⟩
      rcases List.mem_cons.mp ((perm_insertBefore _ a l).mem_iff.mp hc) with rfl | hc'
      · exact Or.inl (of_decide_eq_true h)
      · exact hl.1 c hc'
    · rename_i h
      have hba : p b ≤ p a := not_lt.mp fun hlt => h (decide_eq_true hlt)
      refine List.pairwise_cons.mpr ⟨fun c hc => ?_, List.pairwise_cons.mpr hl⟩
      have hac : a < c := ha c hc
      have hca : p c ≤ p a := by
        rcases List.mem_cons.mp hc with rfl | hc'
        · exact hba
        · rcases hl.1 c hc' with h1 | h1
          · exact h1.le.trans hba
          · exact h1.1.symm.le.trans hba
      rcases hca.lt_or_eq with h1 | h1
      · exact Or.inl h1
      · exact Or.inr ⟨h1.symm, hac⟩

theorem stable_ordered (p : Fin 16 → EReal) (l : List (Fin 16)) (hl : l.Pairwise (· < ·)) : (stableSort (gtB p) l).Pairwise (before p) := by
  induction l with
  | nil => exact List.Pairwise.nil
  | cons a l ih =>
    rw [List.pairwise_cons] at hl
    unfold stableSort
    exact insert_ordered p a _ (ih hl.2) fun b hb => hl.1 b ((perm_stableSort _ l).mem_iff.mp hb)

theorem before_asymm (p : Fin 16 → EReal) (a b : Fin 16) (h : before p a b) : ¬before p b a := by
  rintro (h' | h') <;> rcases h with h | h
  · exact lt_asymm h h'
  · exact (lt_irrefl _) (h.1 ▸ h')
  · exact (lt_irrefl _) (h'.1 ▸ h)
  · exact lt_asymm h.2 h'.2

theorem sorted_before (p : Fin 16 → EReal) (a b : Fin 16) (hab : a < b) : before p (sortedFrom (gtB p) a) (sortedFrom (gtB p) b) := by
  have ho : (sortPositions 16 (gtB p)).Pairwise (before p) := stable_ordered p (List.finRange 16) (List.pairwise_lt_finRange 16)
  have hp := List.pairwise_iff_get.mp ho
  unfold sortedFrom
  refine hp _ _ ?_
  simp only [Fin.lt_def, Fin.val_cast]
  exact hab

theorem sorted_before_iff (p : Fin 16 → EReal) (a b : Fin 16) : before p (sortedFrom (gtB p) a) (sortedFrom (gtB p) b) ↔ a < b := by
  constructor
  · intro h
    rcases lt_trichotomy a b with hab | hab | hab
    · exact hab
    · subst hab
      exact absurd h (before_asymm p _ _ h)
    · exact absurd h (before_asymm p _ _ (sorted_before p b a hab))
  · exact sorted_before p a b

/-- The head the sort puts at place `k` has rank `k`. -/
theorem rank_sorted (p : Fin 16 → EReal) (k : Fin 16) : rank p (sortedFrom (gtB p) k) = k.val := by
  unfold rank
  have h : (Finset.univ.filter fun j => before p j (sortedFrom (gtB p) k)) = (Finset.Iio k).map ⟨sortedFrom (gtB p), sortedFrom_injective _⟩ := by
    ext j
    obtain ⟨a, rfl⟩ := sortedFrom_surjective (gtB p) j
    simp only [Finset.mem_filter, Finset.mem_univ, true_and, Finset.mem_map, Finset.mem_Iio, Function.Embedding.coeFn_mk, sorted_before_iff]
    constructor
    · exact fun h => ⟨a, h, rfl⟩
    · rintro ⟨b, hb, e⟩
      exact (sortedFrom_injective _ e) ▸ hb
  rw [h, Finset.card_map, Fin.card_Iio]

/-- The mask: zero at the heads the sort puts at its first eight places. -/
theorem mask16_sorted (p : Fin 16 → EReal) (i : Fin 16) : mask16 p i = if ∃ k : Fin 16, k.val < 8 ∧ i = sortedFrom (gtB p) k then 0 else 1 := by
  unfold mask16
  obtain ⟨a, rfl⟩ := sortedFrom_surjective (gtB p) i
  rw [rank_sorted]
  by_cases h : 8 ≤ a.val
  · rw [if_pos h, if_neg]
    rintro ⟨k, hk, e⟩
    have := sortedFrom_injective _ e
    subst this
    omega
  · rw [if_neg h, if_pos ⟨a, by omega, rfl⟩]

/-- Zeros scattered over ones: zero where a word names the column. -/
theorem GS_zeros (word : ℕ → BitVec 32) (c n : ℕ) :
    ScatterToDense.GS word (fun _ => (0 : EReal)) 1 c n = if ∃ k, k < n ∧ c = (word k).toNat then 0 else 1 := by
  induction n with
  | zero => rw [ScatterToDense.GS_zero, if_neg]; rintro ⟨k, hk, _⟩; omega
  | succ n ih =>
    rw [ScatterToDense.GS_succ, ih]
    by_cases h : c = (word n).toNat
    · rw [if_pos h, if_pos ⟨n, by omega, h⟩]
    · rw [if_neg h]
      refine if_congr ⟨?_, ?_⟩ rfl rfl
      · rintro ⟨k, hk, e⟩; exact ⟨k, by omega, e⟩
      · rintro ⟨k, hk, e⟩
        refine ⟨k, ?_, e⟩
        rcases Nat.lt_succ_iff_lt_or_eq.mp hk with hk | rfl
        · exact hk
        · exact absurd e h

end Cert.Spec

end
-- ==== Proof.RefMask.lean ====
module

public import proofs.«01_k».proof.Proof.RefAtt
public import proofs.«01_k».proof.Proof.SpecSort

@[expose] public section

set_option maxRecDepth 16384

noncomputable section

namespace Cert.ReferenceIdeal.Hand

open Idealize.ShloMosaic
open Cert.ReferenceIdeal Cert.ReferenceIdeal.Gen Cert.ReferenceIdeal.Read

/-! ## The reference's mask -/

section
variable (x0 : Vec Ideal S1024x512 .f32) (x1 : Vec Ideal S1024x1024 .f32) (x2 : Vec Ideal S16x64x64 .f32) (x3 : Vec Ideal S2x512x64 .f32)

/-- The total comparison of extended reals, as a decision. -/
theorem cmp_gt (a b : EReal) : ((FloatOps.cmpfTotal (F := Ideal) (φ := .f32) .gt a b : BitVec 1) == 1#1) = decide (b < a) := by
  show (Ideal.cmp CmpDirection.gt.ordered a b == 1#1) = _
  unfold Ideal.cmp
  by_cases h : b < a <;> simp [CmpDirection.ordered, h]

/-- A row of the weights the reference sorts. -/
def prow (r : Fin 1024) (n : Fin 16) : EReal := val_main_v30 (F := Ideal) x0 x1 x2 x3 (ix2 r n)

theorem along_eq (r : Fin 1024) (j k : Fin 16) : Shape.Idx.along (s := S1024x16) (ix2 r j) 1 k = ix2 r k := by
  funext a
  match a with
  | ⟨0, _⟩ => rfl
  | ⟨1, _⟩ => rfl

theorem topK_snd (x : S1024x16.Idx → EReal) (gt : EReal → EReal → BitVec 1) (r : Fin 1024) (k : Fin 8) :
    (Host.topK S1024x8 1 gt x sliceFits_S1024x16_S1024x8).2 (ix2 r k)
      = BitVec.ofNat 32 (sortedFrom (fun a b : Fin 16 => gt (x (ix2 r a)) (x (ix2 r b)) == 1#1) ⟨k.val, by omega⟩).val := by
  have hsrc : (fun a : Fin 2 => (⟨0 + (ix2 (n0 := 1024) (n1 := 8) r k (a.cast sliceFits_S1024x16_S1024x8.1.symm)).val, Nat.lt_of_lt_of_le (Nat.add_lt_add_left (ix2 r k _).isLt _) (sliceFits_S1024x16_S1024x8.2 a)⟩ : Fin (S1024x16.size a)))
      = ix2 r (⟨k.val, by omega⟩ : Fin 16) := by
    funext a
    match a with
    | ⟨0, _⟩ => exact Fin.ext (Nat.zero_add _)
    | ⟨1, _⟩ => exact Fin.ext (Nat.zero_add _)
  have hs : ∀ (y : S1024x16.Idx → BitVec 32) (j : Fin 16), (Host.sort2 S1024x16 1 (fun l r => gt l.1 r.1) x y).2 (ix2 r j)
      = y (ix2 r (sortedFrom (fun a b : Fin 16 => gt (x (ix2 r a)) (x (ix2 r b)) == 1#1) j)) := by
    intro y j
    unfold Host.sort2
    rw [dif_pos (by decide)]
    refine (congrArg y (along_eq r j _)).trans (congrArg (fun z => y (ix2 r z)) ?_)
    refine congrArg (fun B => sortedFrom B j) (funext fun a => funext fun b => ?_)
    exact congrArg₂ (fun u v => gt (x u) (x v) == 1#1) (along_eq r j a) (along_eq r j b)
  unfold Host.topK extractStridedSlice
  dsimp only
  refine (congrArg (Host.sort2 S1024x16 1 (fun l r => gt l.1 r.1) x (fun i => if hd : 1 < S1024x16.rank then iotaInDim S1024x16 32 ⟨1, hd⟩ i else 0#32)).2 hsrc).trans ((hs _ _).trans ?_)
  rw [dif_pos (by decide)]
  rfl

theorem indices_at (r : Fin 1024) (k : Fin 8) :
    val_main_indices (F := Ideal) x0 x1 x2 x3 (ix2 r k) = BitVec.ofNat 32 (sortedFrom (Spec.gtB (prow x0 x1 x2 x3 r)) ⟨k.val, by omega⟩).val := by
  refine (topK_snd (val_main_v30 (F := Ideal) x0 x1 x2 x3) (FloatOps.cmpfTotal (F := Ideal) (φ := .f32) .gt) r k).trans ?_
  simp only [cmp_gt]
  rfl

/-- The wrap of a word that is not negative. -/
theorem wrap16 (n : Fin 16) : Scalar.select (IntOp.cmpi .slt (BitVec.ofNat 32 n.val) 0#32) (IntOp.addi (BitVec.ofNat 32 n.val) 16#32) (BitVec.ofNat 32 n.val) = BitVec.ofNat 32 n.val := by
  revert n; decide
theorem wrap1024 (n : Fin 1024) : Scalar.select (IntOp.cmpi .slt (BitVec.ofNat 32 n.val) 0#32) (IntOp.addi (BitVec.ofNat 32 n.val) 1024#32) (BitVec.ofNat 32 n.val) = BitVec.ofNat 32 n.val := by
  revert n; decide +kernel

theorem v47_at0 (r : Fin 1024) (k : Fin 8) : val_main_v47 (F := Ideal) x0 x1 x2 x3 (ix3 r k 0) = BitVec.ofNat 32 r.val := by
  rw [← wrap1024 r]
  pointwise [val_main_v47, val_main_v45, val_main_v44, val_main_v38, val_main_v37, val_main_v36, val_main_v35, val_main_v34, val_main_v33, val_main_v32, val_main_c, val_main_c_5]
theorem v47_at1 (r : Fin 1024) (k : Fin 8) :
    val_main_v47 (F := Ideal) x0 x1 x2 x3 (ix3 r k 1) = BitVec.ofNat 32 (sortedFrom (Spec.gtB (prow x0 x1 x2 x3 r)) ⟨k.val, by omega⟩).val := by
  rw [← wrap16, ← indices_at]
  pointwise [val_main_v47, val_main_v46, val_main_v43, val_main_v42, val_main_v41, val_main_v40, val_main_v39, val_main_c_6, val_main_c_7]
theorem v48_at (r : Fin 1024) (k : Fin 8) : val_main_v48 (F := Ideal) (ix2 r k) = 0 := by
  pointwise [val_main_v48, val_main_cst_8]
theorem v31_at (r : Fin 1024) (k : Fin 16) : val_main_v31 (F := Ideal) (ix2 r k) = 1 := by
  pointwise [val_main_v31, val_main_cst_4]

/-- The words a row scatters to. -/
def wordR (r : Fin 1024) (k : ℕ) : BitVec 32 := if h : k < 8 then BitVec.ofNat 32 (sortedFrom (Spec.gtB (prow x0 x1 x2 x3 r)) ⟨k, by omega⟩).val else 0#32

theorem v49_at (r : Fin 1024) (j : Fin 16) : val_main_v49 (F := Ideal) x0 x1 x2 x3 (ix2 r j) = Spec.mask16 (prow x0 x1 x2 x3 r) j := by
  have h := ScatterToDense.scatter_eq_GS scatter_S1024x16_S1024x8x2_S1024x8_n_01_01_2 rfl rfl rfl (by decide) (by decide)
    (val_main_v31 (F := Ideal)) (val_main_v47 (F := Ideal) x0 x1 x2 x3) (val_main_v48 (F := Ideal)) (wordR x0 x1 x2 x3) (fun _ _ => (0 : EReal))
    (fun i k => v47_at0 x0 x1 x2 x3 i k) (fun i k => by unfold wordR; rw [dif_pos k.isLt]; exact v47_at1 x0 x1 x2 x3 i k)
    (fun i k => v48_at i k) r j
  refine h.trans ?_
  rw [show val_main_v31 (F := Ideal) (ValueIdx.ix2 r j) = (1 : EReal) from v31_at r j, Spec.GS_zeros, Spec.mask16_sorted]
  refine if_congr ⟨?_, ?_⟩ rfl rfl
  · rintro ⟨k, hk, e⟩
    refine ⟨⟨k, by omega⟩, hk, Fin.ext ?_⟩
    unfold wordR at e
    rw [dif_pos hk, BitVec.toNat_ofNat, Nat.mod_eq_of_lt (by omega)] at e
    exact e
  · rintro ⟨k, hk, e⟩
    refine ⟨k.val, hk, ?_⟩
    unfold wordR
    rw [dif_pos hk, BitVec.toNat_ofNat, Nat.mod_eq_of_lt (by omega)]
    exact congrArg Fin.val e

theorem v53_at (r c : Fin 1024) : val_main_v53 (F := Ideal) x0 x1 x2 x3 (ix2 r c) = Spec.mask16 (prow x0 x1 x2 x3 r) ⟨c.val / 64, by omega⟩ := by
  rw [← v49_at]
  pointwise [val_main_v53, val_main_v52, val_main_v51, val_main_v50]
end

end Cert.ReferenceIdeal.Hand

end
-- ==== Proof.RefOut.lean ====
module

public import proofs.«01_k».proof.Proof.RefMask

@[expose] public section

set_option maxRecDepth 16384

noncomputable section

namespace Cert.ReferenceIdeal.Hand

open Idealize.ShloMosaic
open Cert.ReferenceIdeal Cert.ReferenceIdeal.Gen Cert.ReferenceIdeal.Read

/-! ## The reference's stages at an index, floats as extended reals: the gates and the update -/

section
variable (x0 : Vec Ideal S1024x512 .f32) (x1 : Vec Ideal S1024x1024 .f32) (x2 : Vec Ideal S16x64x64 .f32) (x3 : Vec Ideal S2x512x64 .f32) (x4 : Vec Ideal S2x512x256 .f32)
  (x5 : Vec Ideal S3072x4096 .f32) (x6 : Vec Ideal S3072x1024 .f32) (x7 : Vec Ideal S3072 .f32) (x8 : Vec Ideal S3072 .f32)

/-- A gate column's input product with its bias. -/
def rI (r : Fin 1024) (k : Fin 3072) : EReal := Spec.gi (rA x0 x1 x2 x3 x4) (fun k j => x5 (ix2 k j)) r k + x7 (ix1 k)
/-- A gate column's hidden product with its bias. -/
def rH (r : Fin 1024) (k : Fin 3072) : EReal := Spec.gh (fun r d => x1 (ix2 r d)) (fun k j => x6 (ix2 k j)) r k + x8 (ix1 k)

theorem v55_at (r : Fin 1024) (k : Fin 3072) :
    val_main_v55 (F := Ideal) x0 x1 x2 x3 x4 x5 (ix2 r k) = ∑ j : Fin 4096, val_main_v28 (F := Ideal) x0 x1 x2 x3 x4 (ix2 r j) * x5 (ix2 k j) := by
  pointwise [val_main_v55, val_main_v54]
theorem v58_at (r : Fin 1024) (k : Fin 3072) : val_main_v58 (F := Ideal) x0 x1 x2 x3 x4 x5 x7 (ix2 r k) = rI x0 x1 x2 x3 x4 x5 x7 r k := by
  have h : val_main_v58 (F := Ideal) x0 x1 x2 x3 x4 x5 x7 (ix2 r k) = val_main_v55 (F := Ideal) x0 x1 x2 x3 x4 x5 (ix2 r k) + x7 (ix1 k) := by
    pointwise [val_main_v58, val_main_v57, val_main_v56]
  rw [h, v55_at]
  unfold rI Spec.gi
  refine congrArg (· + x7 (ix1 k)) (Finset.sum_congr rfl fun j _ => ?_)
  rw [v28_at]
theorem v63_at (r : Fin 1024) (k : Fin 3072) : val_main_v63 (F := Ideal) x1 x6 x8 (ix2 r k) = rH x1 x6 x8 r k := by
  unfold rH Spec.gh
  pointwise [val_main_v63, val_main_v62, val_main_v61, val_main_v60, val_main_v59]
theorem v64_at (r c : Fin 1024) : val_main_v64 (F := Ideal) x0 x1 x2 x3 x4 x5 x7 (ix2 r c) = rI x0 x1 x2 x3 x4 x5 x7 r (Spec.col 0 c) := by
  rw [← v58_at, val_main_v64_apply]
  exact congrArg _ (funext fun a => match a with
    | ⟨0, _⟩ => rfl
    | ⟨1, _⟩ => Fin.ext (by simp [ix2, Spec.col]))
theorem v65_at (r c : Fin 1024) : val_main_v65 (F := Ideal) x0 x1 x2 x3 x4 x5 x7 (ix2 r c) = rI x0 x1 x2 x3 x4 x5 x7 r (Spec.col 1 c) := by
  rw [← v58_at, val_main_v65_apply]
  exact congrArg _ (funext fun a => match a with
    | ⟨0, _⟩ => rfl
    | ⟨1, _⟩ => Fin.ext (by simp [ix2, Spec.col]))
theorem v66_at (r c : Fin 1024) : val_main_v66 (F := Ideal) x0 x1 x2 x3 x4 x5 x7 (ix2 r c) = rI x0 x1 x2 x3 x4 x5 x7 r (Spec.col 2 c) := by
  rw [← v58_at, val_main_v66_apply]
  exact congrArg _ (funext fun a => match a with
    | ⟨0, _⟩ => rfl
    | ⟨1, _⟩ => Fin.ext (by simp [ix2, Spec.col]))
theorem v67_at (r c : Fin 1024) : val_main_v67 (F := Ideal) x1 x6 x8 (ix2 r c) = rH x1 x6 x8 r (Spec.col 0 c) := by
  rw [← v63_at, val_main_v67_apply]
  exact congrArg _ (funext fun a => match a with
    | ⟨0, _⟩ => rfl
    | ⟨1, _⟩ => Fin.ext (by simp [ix2, Spec.col]))
theorem v68_at (r c : Fin 1024) : val_main_v68 (F := Ideal) x1 x6 x8 (ix2 r c) = rH x1 x6 x8 r (Spec.col 1 c) := by
  rw [← v63_at, val_main_v68_apply]
  exact congrArg _ (funext fun a => match a with
    | ⟨0, _⟩ => rfl
    | ⟨1, _⟩ => Fin.ext (by simp [ix2, Spec.col]))
theorem v69_at (r c : Fin 1024) : val_main_v69 (F := Ideal) x1 x6 x8 (ix2 r c) = rH x1 x6 x8 r (Spec.col 2 c) := by
  rw [← v63_at, val_main_v69_apply]
  exact congrArg _ (funext fun a => match a with
    | ⟨0, _⟩ => rfl
    | ⟨1, _⟩ => Fin.ext (by simp [ix2, Spec.col]))
theorem v76_at (r c : Fin 1024) :
    val_main_v76 (F := Ideal) x0 x1 x2 x3 x4 x5 x6 x7 x8 (ix2 r c) = Ideal.logistic (rI x0 x1 x2 x3 x4 x5 x7 r (Spec.col 0 c) + rH x1 x6 x8 r (Spec.col 0 c)) := by
  rw [← v64_at, ← v67_at]
  pointwise [val_main_v76, val_main_v75, val_main_v74, val_main_v73, val_main_v72, val_main_v71, val_main_v70, val_main_cst_9, val_main_cst_10]
  rfl
theorem v83_at (r c : Fin 1024) :
    val_main_v83 (F := Ideal) x0 x1 x2 x3 x4 x5 x6 x7 x8 (ix2 r c) = Ideal.logistic (rI x0 x1 x2 x3 x4 x5 x7 r (Spec.col 1 c) + rH x1 x6 x8 r (Spec.col 1 c)) := by
  rw [← v65_at, ← v68_at]
  pointwise [val_main_v83, val_main_v82, val_main_v81, val_main_v80, val_main_v79, val_main_v78, val_main_v77, val_main_cst_11, val_main_cst_12]
  rfl
theorem v86_at (r c : Fin 1024) :
    val_main_v86 (F := Ideal) x0 x1 x2 x3 x4 x5 x6 x7 x8 (ix2 r c)
      = Ideal.tanh (rI x0 x1 x2 x3 x4 x5 x7 r (Spec.col 2 c) + Ideal.logistic (rI x0 x1 x2 x3 x4 x5 x7 r (Spec.col 0 c) + rH x1 x6 x8 r (Spec.col 0 c)) * rH x1 x6 x8 r (Spec.col 2 c)) := by
  rw [← v66_at, ← v69_at, ← v76_at]
  pointwise [val_main_v86, val_main_v85, val_main_v84]
theorem v91_at (r c : Fin 1024) :
    val_main_v91 (F := Ideal) x0 x1 x2 x3 x4 x5 x6 x7 x8 (ix2 r c)
      = (1 - val_main_v83 (F := Ideal) x0 x1 x2 x3 x4 x5 x6 x7 x8 (ix2 r c)) * val_main_v86 (F := Ideal) x0 x1 x2 x3 x4 x5 x6 x7 x8 (ix2 r c) + val_main_v83 (F := Ideal) x0 x1 x2 x3 x4 x5 x6 x7 x8 (ix2 r c) * x1 (ix2 r c) := by
  pointwise [val_main_v91, val_main_v90, val_main_v89, val_main_v88, val_main_v87, val_main_cst_13]
/-- The reference's new state at a row and a column. -/
theorem v96_at (r c : Fin 1024) :
    val_main_v96 (F := Ideal) x0 x1 x2 x3 x4 x5 x6 x7 x8 (ix2 r c)
      = Spec.out (fun r => Spec.mask16 (prow x0 x1 x2 x3 r)) (rA x0 x1 x2 x3 x4) (fun r d => x1 (ix2 r d)) (fun k j => x5 (ix2 k j)) (fun k j => x6 (ix2 k j))
          (fun k => x7 (ix1 k)) (fun k => x8 (ix1 k)) r c := by
  have h : val_main_v96 (F := Ideal) x0 x1 x2 x3 x4 x5 x6 x7 x8 (ix2 r c)
      = Spec.blend (val_main_v53 (F := Ideal) x0 x1 x2 x3 (ix2 r c)) (val_main_v91 (F := Ideal) x0 x1 x2 x3 x4 x5 x6 x7 x8 (ix2 r c)) (x1 (ix2 r c)) := by
    unfold Spec.blend
    pointwise [val_main_v96, val_main_v95, val_main_v94, val_main_v93, val_main_v92, val_main_cst_14]
  rw [h, v53_at, v91_at, v83_at, v86_at]
  unfold Spec.out Spec.cell rI rH
  rw [add_add_add_comm, add_add_add_comm (Spec.gi _ _ r (Spec.col 0 c))]
end

end Cert.ReferenceIdeal.Hand

end
-- ==== Proof.KPay.lean ====
module

public import proofs.«01_k».proof.Proof.RunDefs
public import Idealize.ShloMosaic.Lib.Pointwise
public import Idealize.ShloMosaic.Lib.IdealHost
public import Idealize.ShloMosaic.PureOps.Ideal.Laws

@[expose] public section

set_option maxRecDepth 16384

noncomputable section

namespace Cert.KernelIdeal.Hand

open Idealize.ShloMosaic
open Cert.KernelIdeal Cert.KernelIdeal.Gen

/-! ## The payloads read at an index, floats as extended reals -/

/-- The read-out's product with a block of rows of the input weights. -/
theorem pay2_at (v3 : Vec Ideal S1024x4096 .bf16) (v4 : Vec Ideal S256x4096 .f32) (r : Fin 1024) (l : Fin 256) :
    k0_pay2 v3 v4 (ix2 r l) = ∑ j : Fin 4096, v3 (ix2 r j) * v4 (ix2 l j) := by
  pointwise [k0_pay2]
/-- The hidden state's product with a block of rows of the hidden weights. -/
theorem pay3_at (v7 : Vec Ideal S1024x1024 .bf16) (v8 : Vec Ideal S256x1024 .f32) (r : Fin 1024) (l : Fin 256) :
    k0_pay3 v7 v8 (ix2 r l) = ∑ j : Fin 1024, v7 (ix2 r j) * v8 (ix2 l j) := by
  pointwise [k0_pay3]
/-- The gates' sum: both products. -/
theorem pay4_at (v3 : Vec Ideal S1024x4096 .bf16) (v4 : Vec Ideal S256x4096 .f32) (v7 : Vec Ideal S1024x1024 .bf16) (v8 : Vec Ideal S256x1024 .f32) (r : Fin 1024) (l : Fin 256) :
    k0_pay4 v3 v4 v7 v8 (ix2 r l) = (∑ j : Fin 4096, v3 (ix2 r j) * v4 (ix2 l j)) + ∑ j : Fin 1024, v7 (ix2 r j) * v8 (ix2 l j) := by
  rw [← pay2_at, ← pay3_at]
  pointwise [k0_pay4]
/-- The mask's block: the sixteen words times the expansion. -/
theorem pay5_at (v105 : Vec Ideal S16x256 .f32) (v106 : Vec Ideal S1024x16 .f32) (r : Fin 1024) (l : Fin 256) :
    k0_pay5 v105 v106 (ix2 r l) = ∑ n : Fin 16, v106 (ix2 r n) * v105 (ix2 n l) := by
  pointwise [k0_pay5]
/-- The masked update. -/
theorem pay6_at (v67 v72 : Vec Ideal S1024x256 .f32) (v105 : Vec Ideal S16x256 .f32) (v106 : Vec Ideal S1024x16 .f32) (r : Fin 1024) (l : Fin 256) :
    k0_pay6 v67 v72 v105 v106 (ix2 r l) = k0_pay5 v105 v106 (ix2 r l) * v72 (ix2 r l) + (1 - k0_pay5 v105 v106 (ix2 r l)) * v67 (ix2 r l) := by
  pointwise [k0_pay6]
/-- The hidden state's copy is the hidden state. -/
theorem pay7_at (v17 : Vec Ideal S1024x1024 .f32) (r l : Fin 1024) : k0_pay7 v17 (ix2 r l) = v17 (ix2 r l) := by
  pointwise [k0_pay7]
/-- The values: the input times the value weights. -/
theorem pay8_at (v22 : Vec Ideal S1024x512 .f32) (v23 : Vec Ideal S512x256 .f32) (r : Fin 1024) (l : Fin 256) :
    k0_pay8 v22 v23 (ix2 r l) = ∑ d : Fin 512, v22 (ix2 r d) * v23 (ix2 d l) := by
  pointwise [k0_pay8]
theorem pay9_at (v26 : Vec Ideal S1024x16 .f32) (r : Fin 1024) (n : Fin 16) : k0_pay9 v26 (ix2 r n) = v26 (ix2 r n) := by
  pointwise [k0_pay9]
/-- The first two gates: the logistic function of the sums and the biases. -/
theorem pay37_at (v21 : Vec Ideal S1024x256 .bf16) (v25 v29 : Vec Ideal S1x256 .f32) (r : Fin 1024) (l : Fin 256) :
    k0_pay37 v21 v25 v29 (ix2 r l) = Ideal.logistic (v21 (ix2 r l) + (v25 (ix2 0 l) + v29 (ix2 0 l))) := by
  pointwise [k0_pay37]
theorem pay38_at (v21 : Vec Ideal S1024x256 .bf16) (v25 v29 : Vec Ideal S1x256 .f32) (r : Fin 1024) (l : Fin 256) :
    k0_pay38 v21 v25 v29 (ix2 r l) = Ideal.logistic (v21 (ix2 r l) + (v25 (ix2 0 l) + v29 (ix2 0 l))) := by
  pointwise [k0_pay38]
theorem pay39_at (v6 : Vec Ideal S1024x256 .f32) (v53 : Vec Ideal S1x256 .f32) (r : Fin 1024) (l : Fin 256) :
    k0_pay39 v6 v53 (ix2 r l) = v6 (ix2 r l) + v53 (ix2 0 l) := by
  pointwise [k0_pay39]
/-- The new hidden state. -/
theorem pay40_at (v10 v34 v50 v56 v67 : Vec Ideal S1024x256 .f32) (v59 : Vec Ideal S1x256 .f32) (r : Fin 1024) (l : Fin 256) :
    k0_pay40 v10 v34 v50 v56 v59 v67 (ix2 r l)
      = (1 - v50 (ix2 r l)) * Ideal.tanh (v56 (ix2 r l) + v34 (ix2 r l) * (v10 (ix2 r l) + v59 (ix2 0 l))) + v50 (ix2 r l) * v67 (ix2 r l) := by
  pointwise [k0_pay40]
/-- The read-out's column blocks: a head's weight times the values. -/
theorem pay10_at (x0 : Vec Ideal S1024x512 .f32) (x4 : Vec Ideal S512x256 .f32) (x3 : Vec Ideal S1024x16 .f32) (r : Fin 1024) (l : Fin 256) :
    k0_pay10 x0 x4 x3 (ix2 r l) = x3 (ix2 r 0) * k0_pay8 x0 x4 (ix2 r l) := by
  pointwise [k0_pay10, k0_pay9]

end Cert.KernelIdeal.Hand

end
-- ==== Proof.KAtt.lean ====
module

public import proofs.«01_k».proof.Proof.KPay

@[expose] public section

set_option maxRecDepth 16384

noncomputable section

namespace Cert.KernelIdeal.Hand

open Idealize.ShloMosaic
open Cert.KernelIdeal Cert.KernelIdeal.Gen

/-! ## The attention's read-out at an index -/

/-- The read-out as one function: the head's weight times the head's value. -/
def attG (x3 : Vec Ideal S1024x16 .f32) (w : Vec Ideal S1024x256 .f32) : Vec Ideal S1024x4096 .bf16 := fun y =>
  x3 (ix2 (y 0) ⟨(y 1).val / 256, by have h : (y 1).val < 4096 := (y 1).isLt; omega⟩) * w (ix2 (y 0) ⟨(y 1).val % 256, by omega⟩)

/-- A column block of head `k` is the read-out there. -/
theorem att_piece (x3 : Vec Ideal S1024x16 .f32) (w : Vec Ideal S1024x256 .f32) (k : Fin 16) (o : ℕ) (ho : o = 256 * k.val)
    (inb : ∀ a, (![0, o] : Fin S1024x4096.rank → ℕ) a + S1024x256.size a ≤ S1024x4096.size a) (pay : Vec Ideal S1024x256 .bf16)
    (hp : ∀ r l, pay (ix2 r l) = x3 (ix2 r k) * w (ix2 r l)) (x : S1024x256.Idx) :
    pay x = attG x3 w ((Rect.unit (s := S1024x4096) ![0, o] S1024x256.size inb).emb x) := by
  subst ho
  have h0 : (x 0).val < 1024 := (x 0).isLt
  have h1 : (x 1).val < 256 := (x 1).isLt
  have e0 : ((Rect.unit (s := S1024x4096) ![0, 256 * k.val] S1024x256.size inb).emb x) 0 = (⟨(x 0).val, h0⟩ : Fin 1024) :=
    Fin.ext (show 0 + 1 * (x 0).val = (x 0).val by omega)
  have e1 : (((Rect.unit (s := S1024x4096) ![0, 256 * k.val] S1024x256.size inb).emb x) 1).val = 256 * k.val + (x 1).val :=
    (show 256 * k.val + 1 * (x 1).val = 256 * k.val + (x 1).val by omega)
  have ex : x = ix2 ⟨(x 0).val, h0⟩ ⟨(x 1).val, h1⟩ := by funext a; match a with | ⟨0, _⟩ => rfl | ⟨1, _⟩ => rfl
  refine (congrArg pay ex).trans ((hp _ _).trans ?_)
  unfold attG
  refine congrArg₂ (· * ·) (congrArg x3 (congrArg₂ ix2 e0.symm (Fin.ext ?_))) (congrArg w (congrArg₂ ix2 e0.symm (Fin.ext ?_)))
  · show k.val = _ / 256
    rw [e1]; omega
  · show (x 1).val = _ % 256
    rw [e1]; omega

theorem attV_at (x0 : Vec Ideal S1024x512 .f32) (x3 : Vec Ideal S1024x16 .f32) (x4 : Vec Ideal S512x256 .f32) (y : S1024x4096.Idx) :
    attV x0 x3 x4 y = attG x3 (k0_pay8 x0 x4) y := by
  unfold attV
  refine View.canon_apply_of_pieces (attG x3 (k0_pay8 x0 x4)) (attL x0 x3 x4) ?_ y (attL_cover x0 x3 x4 y)
  unfold attL
  simp only [List.mem_cons, List.not_mem_nil, or_false, forall_eq_or_imp, forall_eq]
  refine ⟨?_, ?_, ?_, ?_, ?_, ?_, ?_, ?_, ?_, ?_, ?_, ?_, ?_, ?_, ?_, ?_⟩
  · exact att_piece x3 _ 15 3840 rfl _ _ (by intro r l; pointwise [k0_pay28, k0_pay27, k0_pay9])
  · exact att_piece x3 _ 14 3584 rfl _ _ (by intro r l; pointwise [k0_pay26, k0_pay9])
  · exact att_piece x3 _ 13 3328 rfl _ _ (by intro r l; pointwise [k0_pay25, k0_pay9])
  · exact att_piece x3 _ 12 3072 rfl _ _ (by intro r l; pointwise [k0_pay24, k0_pay9])
  · exact att_piece x3 _ 11 2816 rfl _ _ (by intro r l; pointwise [k0_pay23, k0_pay9])
  · exact att_piece x3 _ 10 2560 rfl _ _ (by intro r l; pointwise [k0_pay22, k0_pay9])
  · exact att_piece x3 _ 9 2304 rfl _ _ (by intro r l; pointwise [k0_pay21, k0_pay20, k0_pay9])
  · exact att_piece x3 _ 8 2048 rfl _ _ (by intro r l; pointwise [k0_pay19, k0_pay9])
  · exact att_piece x3 _ 7 1792 rfl _ _ (by intro r l; pointwise [k0_pay18, k0_pay9])
  · exact att_piece x3 _ 6 1536 rfl _ _ (by intro r l; pointwise [k0_pay17, k0_pay9])
  · exact att_piece x3 _ 5 1280 rfl _ _ (by intro r l; pointwise [k0_pay16, k0_pay9])
  · exact att_piece x3 _ 4 1024 rfl _ _ (by intro r l; pointwise [k0_pay15, k0_pay9])
  · exact att_piece x3 _ 3 768 rfl _ _ (by intro r l; pointwise [k0_pay14, k0_pay13, k0_pay9])
  · exact att_piece x3 _ 2 512 rfl _ _ (by intro r l; pointwise [k0_pay12, k0_pay9])
  · exact att_piece x3 _ 1 256 rfl _ _ (by intro r l; pointwise [k0_pay11, k0_pay9])
  · exact att_piece x3 _ 0 0 rfl _ _ (by intro r l; pointwise [k0_pay10, k0_pay9])

end Cert.KernelIdeal.Hand

end
-- ==== Proof.KMask.lean ====
module

public import proofs.«01_k».proof.Proof.KPay
public import proofs.«01_k».proof.Proof.Spec

@[expose] public section

set_option maxRecDepth 16384

noncomputable section

namespace Cert.KernelIdeal.Hand

open Idealize.ShloMosaic
open Cert.KernelIdeal Cert.KernelIdeal.Gen Cert.Spec
open scoped Classical

/-! ## The integer words: a column's quotient and remainder by a block's width -/

theorem quo64 : ∀ l : Fin 256, Scalar.select
            (IntOp.andi
              (IntOp.cmpi CmpIPredicate.ne
                (IntOp.subi (BitVec.setWidth 32 (IntOp.cmpi CmpIPredicate.sgt (BitVec.ofNat 32 l.val) 0#32))
                  (BitVec.setWidth 32 (IntOp.cmpi CmpIPredicate.slt (BitVec.ofNat 32 l.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 l.val) 64#32) 0#32))
            (IntOp.subi (IntOp.divsi ArithUnit.vector (BitVec.ofNat 32 l.val) 64#32) 1#32)
            (IntOp.divsi ArithUnit.vector (BitVec.ofNat 32 l.val) 64#32) = BitVec.ofNat 32 (l.val / 64) := by decide +kernel
theorem quo16 : ∀ l : Fin 256, Scalar.select
            (IntOp.andi
              (IntOp.cmpi CmpIPredicate.ne
                (IntOp.subi (BitVec.setWidth 32 (IntOp.cmpi CmpIPredicate.sgt (BitVec.ofNat 32 l.val) 0#32))
                  (BitVec.setWidth 32 (IntOp.cmpi CmpIPredicate.slt (BitVec.ofNat 32 l.val) 0#32)))
                (Scalar.subi (Scalar.extui (Scalar.cmpi CmpIPredicate.sgt 16#32 0#32))
                  (Scalar.extui (Scalar.cmpi CmpIPredicate.slt 16#32 0#32))))
              (IntOp.cmpi CmpIPredicate.ne (IntOp.remsi ArithUnit.vector (BitVec.ofNat 32 l.val) 16#32) 0#32))
            (IntOp.subi (IntOp.divsi ArithUnit.vector (BitVec.ofNat 32 l.val) 16#32) 1#32)
            (IntOp.divsi ArithUnit.vector (BitVec.ofNat 32 l.val) 16#32) = BitVec.ofNat 32 (l.val / 16) := by decide +kernel
theorem blockWord : ∀ (q : Fin 4) (l : Fin 256), IntOp.addi (BitVec.ofNat 32 (l.val / 64)) (Scalar.muli (Scalar.subi (BitVec.ofNat 32 (8 + q.val)) 8#32) 4#32) = BitVec.ofNat 32 (4 * q.val + l.val / 64) := by
  decide +kernel
theorem eqWord : ∀ (n m : Fin 16), IntOp.cmpi CmpIPredicate.eq (BitVec.ofNat 32 n.val) (BitVec.ofNat 32 m.val) = BitVec.ofBool (decide (n = m)) := by
  decide +kernel

/-- The expansion: block `n`'s row is one at the columns of block `n`. -/
theorem pay41_at (q : Fin 4) (n : Fin 16) (l : Fin 256) :
    k0_pay41 (F := Ideal) (Scalar.subi (BitVec.ofNat 32 (8 + q.val)) 8#32) (ix2 n l) = if n = ⟨4 * q.val + l.val / 64, by omega⟩ then 1 else 0 := by
  pointwise [k0_pay41]
  rw [quo64 l, blockWord q l]
  have h := eqWord n ⟨4 * q.val + l.val / 64, by omega⟩
  dsimp only at h
  rw [h]
  by_cases hn : n = ⟨4 * q.val + l.val / 64, by omega⟩
  · simp [hn, Scalar.select]
  · simp [hn, Scalar.select]

theorem concat16 : Shape.Concatenates (List.replicate 16 S1024x16) S1024x256 1 := by decide
theorem pay30_at (x : Vec Ideal S1024x16 .f32) (r : Fin 1024) (l : Fin 256) : k0_pay30 x (ix2 r l) = x (ix2 r ⟨l.val % 16, Nat.mod_lt _ (by decide)⟩) := by
  refine Eq.trans (b := k0_pay29 x (ix2 r ⟨l.val % 16, Nat.mod_lt _ (by decide)⟩)) (concatenate_replicate_apply (α := EReal) (t := S1024x256) (s₁ := S1024x16) (1 : Fin 2) 16 (k0_pay29 x) concat16 rfl (ix2 r l) (ix2 r ⟨l.val % 16, Nat.mod_lt _ (by decide)⟩) rfl ?_) ?_
  · intro b hb
    match b with
    | 0 => rfl
    | 1 => exact absurd rfl hb
  · pointwise [k0_pay29]
theorem pay31_at (x : Vec Ideal S1024x16 .f32) (r : Fin 1024) (l : Fin 256) : k0_pay31 x (ix2 r l) = x (ix2 r ⟨l.val / 16, by omega⟩) := by
  pointwise [k0_pay31, k0_pay29]
theorem pay32_at (r : Fin 1024) (l : Fin 256) : k0_pay32 (ix2 r l) = BitVec.ofNat 32 (l.val % 16) := by
  pointwise [k0_pay32]
  revert l
  decide +kernel

theorem ltWord : ∀ (n m : Fin 16), IntOp.cmpi CmpIPredicate.slt (BitVec.ofNat 32 n.val) (BitVec.ofNat 32 m.val) = BitVec.ofBool (decide (n < m)) := by
  decide +kernel
theorem or_and_ofBool (p q s : Prop) [Decidable p] [Decidable q] [Decidable s] :
    IntOp.ori (BitVec.ofBool (decide p)) (IntOp.andi (BitVec.ofBool (decide q)) (BitVec.ofBool (decide s))) = BitVec.ofBool (decide (p ∨ q ∧ s)) := by
  by_cases hp : p <;> by_cases hq : q <;> by_cases hs : s <;> simp [hp, hq, hs, IntOp.ori, IntOp.andi]
theorem select_ofBool {α : Type} (p : Prop) [Decidable p] (x y : α) : Scalar.select (BitVec.ofBool (decide p)) x y = if p then x else y := by
  by_cases h : p <;> simp [Scalar.select, h]

/-- The mask's words: zero at the eight heads with the largest weights on the null slot, one at the others. -/
theorem m16V_at (x : Vec Ideal S1024x16 .f32) (r : Fin 1024) (i : Fin 16) : m16V x (ix2 r i) = mask16 (fun n => x (ix2 r n)) i := by
  pointwise [m16V, k0_pay1, k0_pay36, k0_pay33, k0_pay34, k0_pay35]
  simp only [quo16, pay30_at, pay31_at, pay32_at]
  rw [← mask16_eq, Fin.sum_univ_tiles 16 16 rfl]
  have key : ∀ (a b : Fin 16) (h : a.val * 16 + b.val < 256),
      Scalar.select (IntOp.cmpi CmpIPredicate.eq (BitVec.ofNat 32 ((a.val * 16 + b.val) / 16)) (BitVec.ofNat 32 i.val))
        (Scalar.select (IntOp.ori (BitVec.ofBool (decide (x (ix2 r ⟨(a.val * 16 + b.val) / 16, by omega⟩) < x (ix2 r ⟨(a.val * 16 + b.val) % 16, by omega⟩))))
          (IntOp.andi (BitVec.ofBool (decide (x (ix2 r ⟨(a.val * 16 + b.val) % 16, by omega⟩) = x (ix2 r ⟨(a.val * 16 + b.val) / 16, by omega⟩))))
            (IntOp.cmpi CmpIPredicate.slt (BitVec.ofNat 32 ((a.val * 16 + b.val) % 16)) (BitVec.ofNat 32 ((a.val * 16 + b.val) / 16))))) (1 : EReal) 0) 0
        = if a = i then (if before (fun n => x (ix2 r n)) b i then 1 else 0) else 0 := by
    intro a b h
    have ha : (⟨(a.val * 16 + b.val) / 16, by omega⟩ : Fin 16) = a := Fin.ext (by show (a.val * 16 + b.val) / 16 = a.val; omega)
    have hb : (⟨(a.val * 16 + b.val) % 16, by omega⟩ : Fin 16) = b := Fin.ext (by show (a.val * 16 + b.val) % 16 = b.val; omega)
    have ha' : (a.val * 16 + b.val) / 16 = a.val := congrArg Fin.val ha
    have hb' : (a.val * 16 + b.val) % 16 = b.val := congrArg Fin.val hb
    rw [ha, hb, ha', hb', ltWord, eqWord, or_and_ofBool, select_ofBool, select_ofBool]
    by_cases hi : a = i
    · subst hi; rw [if_pos rfl, if_pos rfl]; exact if_congr Iff.rfl rfl rfl
    · rw [if_neg hi, if_neg hi]
  have sum : (∑ a : Fin 16, ∑ b : Fin 16, if a = i then (if before (fun n => x (ix2 r n)) b i then (1 : EReal) else 0) else 0)
      = ∑ b : Fin 16, if before (fun n => x (ix2 r n)) b i then (1 : EReal) else 0 := by
    rw [Finset.sum_eq_single i]
    · exact Finset.sum_congr rfl fun b _ => if_pos rfl
    · exact fun a _ h => Finset.sum_eq_zero fun b _ => if_neg h
    · exact fun h => absurd (Finset.mem_univ i) h
  rw [← sum]
  refine if_congr (iff_of_eq (congrArg (_ ≤ ·) (Finset.sum_congr rfl fun a _ => Finset.sum_congr rfl fun b _ => ?_))) rfl rfl
  exact key a b (by have := a.isLt; have := b.isLt; omega)

/-- The mask's block at the point that computes columns `256 q …`: the word of the column's block. -/
theorem maskV_at (i : grid0.Coords) (q : Fin 4) (hi : (i 0).val = 8 + q.val) (xs3 : Vec Ideal S1024x16 .f32) (r : Fin 1024) (l : Fin 256) :
    maskV i xs3 (ix2 r l) = xs3 (ix2 r ⟨4 * q.val + l.val / 64, by omega⟩) := by
  unfold maskV
  rw [pay5_at, hi]
  simp only [pay41_at]
  rw [Finset.sum_eq_single (⟨4 * q.val + l.val / 64, by omega⟩ : Fin 16)]
  · rw [if_pos rfl, mul_one]
  · intro n _ hn; rw [if_neg hn, mul_zero]
  · exact fun h => absurd (Finset.mem_univ _) h

end Cert.KernelIdeal.Hand

end
-- ==== Proof.KOut.lean ====
module

public import proofs.«01_k».proof.Proof.KPay
public import proofs.«01_k».proof.Proof.KMask

@[expose] public section

set_option maxRecDepth 16384

noncomputable section

namespace Cert.KernelIdeal.Hand

open Idealize.ShloMosaic
open Cert.KernelIdeal Cert.KernelIdeal.Gen

/-! ## A block of the updated state at an index -/

/-- A window at unit stride over the columns, read at an index. -/
theorem window_at {α : Type} {A B a b : ℕ} (x : (⟨2, ![A, B]⟩ : Shape).Idx → α) (o : ℕ) (off : Fin 2 → ℕ) (hoff : off = ![0, o])
    (inb : ∀ k, off k + (![a, b] : Fin 2 → ℕ) k ≤ (![A, B] : Fin 2 → ℕ) k) (r : Fin a) (l : Fin b) (hr : r.val < A) (hl : o + l.val < B) :
    VecWindow.window (s := (⟨2, ![A, B]⟩ : Shape)) x off ![a, b] inb (ix2 r l) = x (ix2 ⟨r.val, hr⟩ ⟨o + l.val, hl⟩) := by
  subst hoff
  refine congrArg x (funext fun k => ?_)
  match k with
  | ⟨0, _⟩ => exact Fin.ext (show 0 + 1 * r.val = r.val by omega)
  | ⟨1, _⟩ => exact Fin.ext (show o + 1 * l.val = o + l.val by omega)

theorem off2_at (i : grid0.Coords) (q : Fin 4) (hi : (i 0).val = 8 + q.val) :
    k0_off2 i 0#32 = ![0, 256 * q.val] ∧ k0_off2 i 1024#32 = ![0, 1024 + 256 * q.val] := by
  unfold k0_off2
  rw [hi]
  clear hi
  revert q
  decide
theorem off3_at (i : grid0.Coords) (q : Fin 4) (hi : (i 0).val = 8 + q.val) :
    k0_off3 i 0#32 = ![0, 256 * q.val] ∧ k0_off3 i 1024#32 = ![0, 1024 + 256 * q.val] ∧ k0_off3 i 2048#32 = ![0, 2048 + 256 * q.val] := by
  unfold k0_off3
  rw [hi]
  clear hi
  revert q
  decide
theorem off4_at (i : grid0.Coords) (q : Fin 4) (hi : (i 0).val = 8 + q.val) : k0_off4 i = ![0, 256 * q.val] := by
  unfold k0_off4
  rw [hi]
  clear hi
  revert q
  decide

theorem newV_at (i : grid0.Coords) (h : condC i) (q : Fin 4) (hi : (i 0).val = 8 + q.val)
    (x1 : Vec Ideal S1024x1024 .f32) (x5 : Vec Ideal S256x4096 .f32) (x6 : Vec Ideal S256x1024 .f32) (x7 : Vec Ideal S1x3072 .f32) (x8 : Vec Ideal S1x3072 .f32)
    (xs0 : Vec Ideal S1024x4096 .bf16) (xs1 : Vec Ideal S1024x1024 .bf16) (xs2 : Vec Ideal S1024x2048 .bf16) (r : Fin 1024) (l : Fin 256) :
    newV i h x1 x5 x6 x7 x8 xs0 xs1 xs2 (ix2 r l)
      = Spec.cell (xs2 (ix2 r ⟨256 * q.val + l.val, by omega⟩)) (x7 (ix2 0 ⟨256 * q.val + l.val, by omega⟩)) (x8 (ix2 0 ⟨256 * q.val + l.val, by omega⟩))
          (xs2 (ix2 r ⟨1024 + 256 * q.val + l.val, by omega⟩)) (x7 (ix2 0 ⟨1024 + 256 * q.val + l.val, by omega⟩)) (x8 (ix2 0 ⟨1024 + 256 * q.val + l.val, by omega⟩))
          (∑ j : Fin 4096, xs0 (ix2 r j) * x5 (ix2 l j)) (x7 (ix2 0 ⟨2048 + 256 * q.val + l.val, by omega⟩))
          (∑ j : Fin 1024, xs1 (ix2 r j) * x6 (ix2 l j)) (x8 (ix2 0 ⟨2048 + 256 * q.val + l.val, by omega⟩))
          (x1 (ix2 r ⟨256 * q.val + l.val, by omega⟩)) := by
  obtain ⟨o20, o21⟩ := off2_at i q hi
  obtain ⟨o30, o31, o32⟩ := off3_at i q hi
  have o4 := off4_at i q hi
  have w20 : VecWindow.window xs2 (k0_off2 i 0#32) S1024x256.size (k0_off2_inb i h 0) (ix2 r l) = xs2 (ix2 r ⟨256 * q.val + l.val, by omega⟩) :=
    window_at xs2 _ _ o20 _ r l r.isLt _
  have w21 : VecWindow.window xs2 (k0_off2 i 1024#32) S1024x256.size (k0_off2_inb i h 1) (ix2 r l) = xs2 (ix2 r ⟨1024 + 256 * q.val + l.val, by omega⟩) :=
    window_at xs2 _ _ o21 _ r l r.isLt _
  have w70 : VecWindow.window x7 (k0_off3 i 0#32) S1x256.size (k0_off3_inb i h 0) (ix2 0 l) = x7 (ix2 0 ⟨256 * q.val + l.val, by omega⟩) :=
    window_at x7 _ _ o30 _ 0 l (by decide) _
  have w71 : VecWindow.window x7 (k0_off3 i 1024#32) S1x256.size (k0_off3_inb i h 1) (ix2 0 l) = x7 (ix2 0 ⟨1024 + 256 * q.val + l.val, by omega⟩) :=
    window_at x7 _ _ o31 _ 0 l (by decide) _
  have w72 : VecWindow.window x7 (k0_off3 i 2048#32) S1x256.size (k0_off3_inb i h 2) (ix2 0 l) = x7 (ix2 0 ⟨2048 + 256 * q.val + l.val, by omega⟩) :=
    window_at x7 _ _ o32 _ 0 l (by decide) _
  have w80 : VecWindow.window x8 (k0_off3 i 0#32) S1x256.size (k0_off3_inb i h 0) (ix2 0 l) = x8 (ix2 0 ⟨256 * q.val + l.val, by omega⟩) :=
    window_at x8 _ _ o30 _ 0 l (by decide) _
  have w81 : VecWindow.window x8 (k0_off3 i 1024#32) S1x256.size (k0_off3_inb i h 1) (ix2 0 l) = x8 (ix2 0 ⟨1024 + 256 * q.val + l.val, by omega⟩) :=
    window_at x8 _ _ o31 _ 0 l (by decide) _
  have w82 : VecWindow.window x8 (k0_off3 i 2048#32) S1x256.size (k0_off3_inb i h 2) (ix2 0 l) = x8 (ix2 0 ⟨2048 + 256 * q.val + l.val, by omega⟩) :=
    window_at x8 _ _ o32 _ 0 l (by decide) _
  have w1 : hxBlk i h x1 (ix2 r l) = x1 (ix2 r ⟨256 * q.val + l.val, by omega⟩) := window_at x1 _ _ o4 _ r l r.isLt _
  unfold newV Spec.cell
  rw [pay40_at, pay37_at, pay38_at, pay39_at, pay2_at, pay3_at, w20, w21, w70, w71, w72, w80, w81, w82, w1]

theorem outV_at (i : grid0.Coords) (h : condC i) (q : Fin 4) (hi : (i 0).val = 8 + q.val)
    (x1 : Vec Ideal S1024x1024 .f32) (x5 : Vec Ideal S256x4096 .f32) (x6 : Vec Ideal S256x1024 .f32) (x7 : Vec Ideal S1x3072 .f32) (x8 : Vec Ideal S1x3072 .f32)
    (xs0 : Vec Ideal S1024x4096 .bf16) (xs1 : Vec Ideal S1024x1024 .bf16) (xs2 : Vec Ideal S1024x2048 .bf16) (xs3 : Vec Ideal S1024x16 .f32) (r : Fin 1024) (l : Fin 256) :
    outV i h x1 x5 x6 x7 x8 xs0 xs1 xs2 xs3 (ix2 r l)
      = Spec.blend (xs3 (ix2 r ⟨4 * q.val + l.val / 64, by omega⟩)) (newV i h x1 x5 x6 x7 x8 xs0 xs1 xs2 (ix2 r l)) (x1 (ix2 r ⟨256 * q.val + l.val, by omega⟩)) := by
  have w1 : hxBlk i h x1 (ix2 r l) = x1 (ix2 r ⟨256 * q.val + l.val, by omega⟩) := window_at x1 _ _ (off4_at i q hi) _ r l r.isLt _
  have hm := maskV_at i q hi xs3 r l
  unfold maskV at hm
  unfold outV Spec.blend
  rw [pay6_at, hm, w1]

end Cert.KernelIdeal.Hand

end
-- ==== Proof.KArr.lean ====
module

public import proofs.«01_k».proof.Proof.Body
public import proofs.«01_k».proof.Proof.KAtt
public import proofs.«01_k».proof.Proof.KOut
public import Idealize.ShloMosaic.Lib.Pipeline.ValueKit.Geometry

@[expose] public section

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable (m : (ℓ : Loc nD τ sig) → Buf (Elt Ideal) ℓ)

/-! ## The windows' blocks at an index -/

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, t.val - 8] := (by decide +kernel : ∀ t : Fin grid0.N, _)
theorem e10 : ∀ t : Fin cfg0.N, win0_10.index t = ![0, t.val - 8] := (by decide +kernel : ∀ t : Fin grid0.N, _)

theorem t_lt (t : Fin cfg0.N) : t.val < 12 := lt_of_lt_of_eq t.isLt N_0

theorem iblk0_at (c : Dev nD) (t : Fin cfg0.N) (r : Fin 1024) (d : Fin 512) : iblk m c 0 t (ix2 r d) = V m c main_arg0 (ix2 r d) := by
  blk_simp [iblk]; refine congrArg (V m c main_arg0) ?_; blk_ext [e0]
theorem iblk1_at (c : Dev nD) (t : Fin cfg0.N) (r d : Fin 1024) : iblk m c 1 t (ix2 r d) = V m c main_arg1 (ix2 r d) := by
  blk_simp [iblk]; refine congrArg (V m c main_arg1) ?_; blk_ext [e1]
theorem iblk2_at (c : Dev nD) (t : Fin cfg0.N) (r : Fin 1024) (d : Fin 16) : iblk m c 2 t (ix2 r d) = V m c main_v22 (ix2 r d) := by
  blk_simp [iblk]; refine congrArg (V m c main_v22) ?_; blk_ext [e2]
theorem iblk3_at (c : Dev nD) (t : Fin cfg0.N) (r : Fin 1024) (d : Fin 16) : iblk m c 3 t (ix2 r d) = V m c main_v23 (ix2 r d) := by
  blk_simp [iblk]; refine congrArg (V m c main_v23) ?_; blk_ext [e3]
theorem iblk4_at (c : Dev nD) (t : Fin cfg0.N) (r : Fin 512) (d : Fin 256) : iblk m c 4 t (ix2 r d) = V m c main_v25 (ix2 r d) := by
  blk_simp [iblk]; refine congrArg (V m c main_v25) ?_; blk_ext [e4]
theorem iblk5_at (c : Dev nD) (t : Fin cfg0.N) (r : Fin 256) (d : Fin 4096) :
    iblk m c 5 t (ix2 r d) = V m c main_arg5 (ix2 ⟨256 * t.val + r.val, by have := t_lt t; omega⟩ d) := by
  blk_simp [iblk]; refine congrArg (V m c main_arg5) ?_; blk_ext [e5]
theorem iblk6_at (c : Dev nD) (t : Fin cfg0.N) (r : Fin 256) (d : Fin 1024) :
    iblk m c 6 t (ix2 r d) = V m c main_arg6 (ix2 ⟨256 * t.val + r.val, by have := t_lt t; omega⟩ d) := by
  blk_simp [iblk]; refine congrArg (V m c main_arg6) ?_; blk_ext [e6]
theorem iblk7_at (c : Dev nD) (t : Fin cfg0.N) (d : Fin 3072) : iblk m c 7 t (ix2 0 d) = V m c main_v26 (ix2 0 d) := by
  blk_simp [iblk]; refine congrArg (V m c main_v26) ?_; blk_ext [e7]
theorem iblk8_at (c : Dev nD) (t : Fin cfg0.N) (d : Fin 3072) : iblk m c 8 t (ix2 0 d) = V m c main_v27 (ix2 0 d) := by
  blk_simp [iblk]; refine congrArg (V m c main_v27) ?_; blk_ext [e8]

/-! ## The tables the launch finds -/

/-- The mask's word of a row and a head. -/
def kM (c : Dev nD) (r : Fin 1024) : Fin 16 → EReal := Spec.mask16 (fun n => V m c main_v22 (ix2 r n))
/-- The input. -/
def kI (c : Dev nD) (r : Fin 1024) (d : Fin 512) : EReal := V m c main_arg0 (ix2 r d)
/-- The value weights. -/
def kWV (c : Dev nD) (d : Fin 512) (l : Fin 256) : EReal := V m c main_v25 (ix2 d l)
/-- The read-out. -/
def kA (c : Dev nD) : Fin 1024 → Fin 4096 → EReal :=
  Spec.att (fun r n => V m c main_v23 (ix2 r n)) (fun r l => ∑ d : Fin 512, kI m c r d * kWV m c d l)
/-- The hidden state. -/
def kH (c : Dev nD) (r d : Fin 1024) : EReal := V m c main_arg1 (ix2 r d)
/-- The input weights. -/
def kWI (c : Dev nD) (k : Fin 3072) (j : Fin 4096) : EReal := V m c main_arg5 (ix2 k j)
/-- The hidden weights. -/
def kWH (c : Dev nD) (k : Fin 3072) (j : Fin 1024) : EReal := V m c main_arg6 (ix2 k j)
/-- The biases. -/
def kBI (c : Dev nD) (k : Fin 3072) : EReal := V m c main_v26 (ix2 0 k)
def kBH (c : Dev nD) (k : Fin 3072) : EReal := V m c main_v27 (ix2 0 k)

theorem attS_at (c : Dev nD) (r : Fin 1024) (j : Fin 4096) : attS m c (ix2 r j) = kA m c r j := by
  unfold attS
  rw [attV_at]
  unfold attG kA Spec.att
  show @HMul.hMul EReal EReal EReal _ (iblk m c 3 tA (ix2 r _)) (k0_pay8 (iblk m c 0 tA) (iblk m c 4 tA) (ix2 r _)) = _
  rw [pay8_at, iblk3_at]
  refine congrArg₂ (· * ·) rfl (Finset.sum_congr rfl fun d _ => ?_)
  rw [iblk0_at, iblk4_at]
  rfl
theorem hxS_at (c : Dev nD) (r j : Fin 1024) : hxS m c (ix2 r j) = kH m c r j := by
  unfold hxS hxV kH
  rw [pay7_at, iblk1_at]
theorem m16S_at (c : Dev nD) (r : Fin 1024) (n : Fin 16) : m16S m c (ix2 r n) = kM m c r n := by
  unfold m16S kM
  rw [m16V_at]
  refine congrArg (fun p => Spec.mask16 p n) (funext fun k => ?_)
  exact iblk2_at m c tA r k
theorem gatesS_at (c : Dev nD) (r : Fin 1024) (k : Fin 2048) :
    gatesS m c (ix2 r k) = Spec.gi (kA m c) (kWI m c) r ⟨k.val, by omega⟩ + Spec.gh (kH m c) (kWH m c) r ⟨k.val, by omega⟩ := by
  show sumS m c (ptOf (ix2 r k)) (ix2 r ⟨k.val % 256, Nat.mod_lt _ (by decide)⟩) = _
  unfold sumS Spec.gi Spec.gh
  rw [pay4_at]
  have hk : 256 * (k.val / 256) + k.val % 256 = k.val := by omega
  refine congrArg₂ (· + ·) (Finset.sum_congr rfl fun j _ => ?_) (Finset.sum_congr rfl fun j _ => ?_)
  · rw [attS_at, iblk5_at]
    unfold kWI
    exact congrArg (fun z : Fin 3072 => kA m c r j * V m c main_arg5 (ix2 z j)) (Fin.ext hk)
  · rw [hxS_at, iblk6_at]
    unfold kWH
    exact congrArg (fun z : Fin 3072 => kH m c r j * V m c main_arg6 (ix2 z j)) (Fin.ext hk)

/-! ## The results' blocks -/

theorem o10_at (c : Dev nD) (t : Fin cfg0.N) (q : Fin 4) (ht : t.val = 8 + q.val) (r : Fin 1024) (l : Fin 256) :
    o10 m c t (ix2 r l) = kM m c r ⟨(256 * q.val + l.val) / 64, by omega⟩ := by
  unfold o10
  rw [maskV_at (grid0.coords t) q ((coords_val t).trans ht), m16S_at]
  exact congrArg (kM m c r) (Fin.ext (by show 4 * q.val + l.val / 64 = (256 * q.val + l.val) / 64; omega))

theorem o9_at (c : Dev nD) (t : Fin cfg0.N) (h : condC (grid0.coords t)) (q : Fin 4) (ht : t.val = 8 + q.val) (r : Fin 1024) (l : Fin 256) :
    o9 m c t h (ix2 r l) = Spec.out (kM m c) (kA m c) (kH m c) (kWI m c) (kWH m c) (kBI m c) (kBH m c) r ⟨256 * q.val + l.val, by omega⟩ := by
  unfold o9
  have hi := (coords_val t).trans ht
  rw [outV_at (grid0.coords t) h q hi, newV_at (grid0.coords t) h q hi, m16S_at, gatesS_at, gatesS_at, iblk7_at, iblk7_at, iblk7_at, iblk8_at, iblk8_at, iblk8_at, iblk1_at]
  unfold Spec.out Spec.gi Spec.gh
  have eM : (⟨4 * q.val + l.val / 64, by omega⟩ : Fin 16) = ⟨(256 * q.val + l.val) / 64, by omega⟩ := Fin.ext (by show 4 * q.val + l.val / 64 = (256 * q.val + l.val) / 64; omega)
  have c0 : (⟨256 * q.val + l.val, by omega⟩ : Fin 3072) = Spec.col 0 ⟨256 * q.val + l.val, by omega⟩ := Fin.ext (by show 256 * q.val + l.val = 1024 * 0 + (256 * q.val + l.val); omega)
  have c1 : (⟨1024 + 256 * q.val + l.val, by omega⟩ : Fin 3072) = Spec.col 1 ⟨256 * q.val + l.val, by omega⟩ := Fin.ext (by show 1024 + 256 * q.val + l.val = 1024 * 1 + (256 * q.val + l.val); omega)
  have c2 : (⟨2048 + 256 * q.val + l.val, by omega⟩ : Fin 3072) = Spec.col 2 ⟨256 * q.val + l.val, by omega⟩ := Fin.ext (by show 2048 + 256 * q.val + l.val = 1024 * 2 + (256 * q.val + l.val); omega)
  have ct : (256 * t.val + l.val) = 1024 * 2 + (256 * q.val + l.val) := by omega
  have g5 : (∑ j : Fin 4096, attS m c (ix2 r j) * iblk m c 5 t (ix2 l j)) = ∑ j : Fin 4096, kA m c r j * kWI m c (Spec.col 2 ⟨256 * q.val + l.val, by omega⟩) j :=
    Finset.sum_congr rfl fun j _ => by
      rw [attS_at, iblk5_at]
      exact congrArg (fun z : Fin 3072 => kA m c r j * V m c main_arg5 (ix2 z j)) (Fin.ext ct)
  have g6 : (∑ j : Fin 1024, hxS m c (ix2 r j) * iblk m c 6 t (ix2 l j)) = ∑ j : Fin 1024, kH m c r j * kWH m c (Spec.col 2 ⟨256 * q.val + l.val, by omega⟩) j :=
    Finset.sum_congr rfl fun j _ => by
      rw [hxS_at, iblk6_at]
      exact congrArg (fun z : Fin 3072 => kH m c r j * V m c main_arg6 (ix2 z j)) (Fin.ext ct)
  rw [g5, g6, eM, c0, c1, c2]
  rfl

/-! ## The results' arrays -/

/-- The updated state, whole. -/
def G9 (c : Dev nD) : Vec Ideal S1024x1024 .f32 := fun y =>
  Spec.out (kM m c) (kA m c) (kH m c) (kWI m c) (kWH m c) (kBI m c) (kBH m c) (y 0) (y 1)
/-- The mask, whole. -/
def G10 (c : Dev nD) : Vec Ideal S1024x1024 .f32 := fun y => kM m c (y 0) ⟨(y 1).val / 64, by have h : (y 1).val < 1024 := (y 1).isLt; omega⟩

theorem flush_ge9 : ∀ t : Fin cfg0.N, (cfg0.win 9).flush t = true → 8 ≤ t.val := (by decide +kernel : ∀ t : Fin grid0.N, _)
theorem flush_ge10 : ∀ t : Fin cfg0.N, (cfg0.win 10).flush t = true → 8 ≤ t.val := (by decide +kernel : ∀ t : Fin grid0.N, _)

theorem final9 (c : Dev nD) : (dats m 0 c).arrAt 9 cfg0.N = G9 m c := by
  refine (dats m 0 c).arrAt_eq_of_covers 9 _ (by decide +kernel) fun t hf y => ?_
  blk_simp
  have h8 := flush_ge9 t hf
  have h12 := t_lt t
  rw [after0_9 m c t ((hcondC t).mpr h8)]
  have hy0 : (y 0).val < 1024 := (y 0).isLt
  have hy1 : (y 1).val < 256 := (y 1).isLt
  have ey : y = ix2 (⟨(y 0).val, hy0⟩ : Fin 1024) (⟨(y 1).val, hy1⟩ : Fin 256) := by funext a; match a with | ⟨0, _⟩ => rfl | ⟨1, _⟩ => rfl
  have ee : (win0_9.blk t).view.emb y = ix2 (⟨(y 0).val, hy0⟩ : Fin 1024) (⟨256 * (t.val - 8) + (y 1).val, by omega⟩ : Fin 1024) := by blk_ext [e9]
  refine (congrArg _ ey).trans ((o9_at m c t _ ⟨t.val - 8, by omega⟩ (by show t.val = 8 + (t.val - 8); omega) _ _).trans ?_)
  exact (congrArg (G9 m c) ee).symm

theorem final10 (c : Dev nD) : (dats m 0 c).arrAt 10 cfg0.N = G10 m c := by
  refine (dats m 0 c).arrAt_eq_of_covers 10 _ (by decide +kernel) fun t hf y => ?_
  blk_simp
  have h8 := flush_ge10 t hf
  have h12 := t_lt t
  rw [after0_10 m c t]
  have hy0 : (y 0).val < 1024 := (y 0).isLt
  have hy1 : (y 1).val < 256 := (y 1).isLt
  have ey : y = ix2 (⟨(y 0).val, hy0⟩ : Fin 1024) (⟨(y 1).val, hy1⟩ : Fin 256) := by funext a; match a with | ⟨0, _⟩ => rfl | ⟨1, _⟩ => rfl
  have ee : (win0_10.blk t).view.emb y = ix2 (⟨(y 0).val, hy0⟩ : Fin 1024) (⟨256 * (t.val - 8) + (y 1).val, by omega⟩ : Fin 1024) := by blk_ext [e10]
  refine (congrArg _ ey).trans ((o10_at m c t ⟨t.val - 8, by omega⟩ (by show t.val = 8 + (t.val - 8); omega) _ _).trans ?_)
  exact (congrArg (G10 m c) ee).symm

end Cert.KernelIdeal.Hand

end
-- ==== Proof.KHost.lean ====
module

public import proofs.«01_k».proof.Proof.Gen.KernelIdeal.Frame
public import proofs.«01_k».proof.Proof.Spec

@[expose] public section

set_option maxRecDepth 16384

noncomputable section

namespace Cert.KernelIdeal.Hand

open Idealize.ShloMosaic Idealize.ShloMosaic.TcCoe
open Cert.KernelIdeal Cert.KernelIdeal.Gen

/-! ## The operations before the launch, as functions of the arguments -/

variable {F : FTy → Type} [FloatOps F]

/-- The queries. -/
def hq (x1 : Vec F S1024x1024 .f32) (x2 : Vec F S16x64x64 .f32) : Vec F S1024x16x64 .f32 :=
  transpose S1024x16x64 [2, 0, 1] (Host.dotGeneral dot_S16x64x64_S1024x16x64_S16x64x1024_1_2_2_0_0_1 none x2 (shapeCast S1024x16x64 x1 shapeCasts_S1024x1024_S1024x16x64)) transposes_S16x64x1024_S1024x16x64_2_0_1
/-- The one key that is not zero. -/
def hk (x0 : Vec F S1024x512 .f32) (x3 : Vec F S2x512x64 .f32) : Vec F S1024x64 .f32 :=
  Host.dotGeneral dot_S1024x512_S512x64_S1024x64_1_0_0_1_n_n none x0 (shapeCast S512x64 (extractStridedSlice S1x512x64 ![1, 0, 0] x3 slices_S2x512x64_S1x512x64_1_0_0) shapeCasts_S1x512x64_S512x64)
/-- The two keys. -/
def hkk (k : Vec F S1024x64 .f32) : Vec F S1024x2x64 .f32 :=
  concatenate S1024x2x64 1 [⟨S1024x1x64, broadcastInDim S1024x1x64 ![] bcast_S_S1024x1x64 (constant (F := F) S_ .f32 0x00000000#32)⟩,
    ⟨S1024x1x64, broadcastInDim S1024x1x64 ![0, 2] bcast_S1024x64_S1024x1x64_0_2 k⟩] concatenates_S1024x1x64_S1024x1x64_S1024x2x64_d1
/-- The scores. -/
def hs (q : Vec F S1024x16x64 .f32) (kk : Vec F S1024x2x64 .f32) : Vec F S1024x16 .f32 :=
  shapeCast S1024x16 ((extractStridedSlice S1024x16x1 ![0, 0, 1] · slices_S1024x16x2_S1024x16x1_0_0_1) (Host.divf (Host.dotGeneral dot_S1024x16x64_S1024x2x64_S1024x16x2_2_2_1_1_0_0 none q kk)
    (broadcastInDim S1024x16x2 ![] bcast_S_S1024x16x2 (constant (F := F) S_ .f32 0x41000000#32)))) shapeCasts_S1024x16x1_S1024x16
/-- The larger score. -/
def hmx (s : Vec F S1024x16 .f32) : Vec F S1024x16 .f32 := maximumf s (broadcastInDim S1024x16 ![] bcast_S_S1024x16 (constant (F := F) S_ .f32 0x00000000#32))
/-- The two exponentials. -/
def he0 (s : Vec F S1024x16 .f32) : Vec F S1024x16 .f32 := Host.exp (Host.negf (hmx s))
def he1 (s : Vec F S1024x16 .f32) : Vec F S1024x16 .f32 := Host.exp (subf s (hmx s))
/-- The two weights. -/
def hp0 (s : Vec F S1024x16 .f32) : Vec F S1024x16 .f32 := Host.divf (he0 s) (addf (he0 s) (he1 s))
def hp1 (s : Vec F S1024x16 .f32) : Vec F S1024x16 .f32 := Host.divf (he1 s) (addf (he0 s) (he1 s))

theorem hq_at (x1 : Vec Ideal S1024x1024 .f32) (x2 : Vec Ideal S16x64x64 .f32) (r : Fin 1024) (n : Fin 16) (e : Fin 64) :
    hq x1 x2 (ix3 r n e) = Spec.qv (fun r d => x1 (ix2 r d)) (fun n d e => x2 (ix3 n d e)) r n e := by
  unfold Spec.qv
  pointwise [hq]
theorem hk_at (x0 : Vec Ideal S1024x512 .f32) (x3 : Vec Ideal S2x512x64 .f32) (r : Fin 1024) (e : Fin 64) :
    hk x0 x3 (ix2 r e) = Spec.kv (fun r d => x0 (ix2 r d)) (fun d e => x3 (ix3 1 d e)) r e := by
  unfold Spec.kv
  pointwise [hk]
theorem hkk_at (k : Vec Ideal S1024x64 .f32) (r : Fin 1024) (e : Fin 64) : hkk k (ix3 r 1 e) = k (ix2 r e) := by
  pointwise [hkk]
theorem hs_at (q : Vec Ideal S1024x16x64 .f32) (kk : Vec Ideal S1024x2x64 .f32) (r : Fin 1024) (n : Fin 16) :
    hs q kk (ix2 r n) = Ideal.div (∑ e : Fin 64, q (ix3 r n e) * kk (ix3 r 1 e)) (Ideal.ofBits .f32 0x41000000#32) := by
  pointwise [hs]
theorem hmx_at (s : Vec Ideal S1024x16 .f32) (r : Fin 1024) (n : Fin 16) : hmx s (ix2 r n) = max (s (ix2 r n)) 0 := by
  pointwise [hmx]
theorem hp0_at (s : Vec Ideal S1024x16 .f32) (r : Fin 1024) (n : Fin 16) : hp0 s (ix2 r n) = Spec.p0 (s (ix2 r n)) := by
  unfold Spec.p0 Spec.w0 Spec.w1
  pointwise [hp0, he0, he1, hmx]
theorem hp1_at (s : Vec Ideal S1024x16 .f32) (r : Fin 1024) (n : Fin 16) : hp1 s (ix2 r n) = Spec.p1 (s (ix2 r n)) := by
  unfold Spec.p1 Spec.w0 Spec.w1
  pointwise [hp1, he0, he1, hmx]

end Cert.KernelIdeal.Hand

end
-- ==== Proof.KHostV.lean ====
module

public import proofs.«01_k».proof.Proof.Gen.KernelIdeal.Frame
public import proofs.«01_k».proof.Proof.KHost
public import Idealize.ShloMosaic.Lib.Pipeline.ValueKit.Point

@[expose] public section

set_option maxRecDepth 16384

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ)

/-- The scores of the launch's arguments. -/
def hsV (c : Dev nD) : Vec Ideal S1024x16 .f32 :=
  hs (hq (m ((c : Thread nD τ).loc main_arg1)) (m ((c : Thread nD τ).loc main_arg2))) (hkk (hk (m ((c : Thread nD τ).loc main_arg0)) (m ((c : Thread nD τ).loc main_arg3))))

theorem V_v22 (c : Dev nD) : V m c main_v22 = hp0 (hsV m c) := by
  dsimp only [V, hostOps0]
  after_results
  unfold hp0 he0 he1 hmx hsV hs hq hkk hk
  rfl
theorem V_v23 (c : Dev nD) : V m c main_v23 = hp1 (hsV m c) := by
  dsimp only [V, hostOps0]
  after_results
  unfold hp1 he0 he1 hmx hsV hs hq hkk hk
  rfl
theorem V_v25_at (c : Dev nD) (d : Fin 512) (l : Fin 256) : V m c main_v25 (ix2 d l) = m ((c : Thread nD τ).loc main_arg4) (ix3 1 d l) := by
  have h : V m c main_v25 = shapeCast S512x256 (extractStridedSlice S1x512x256 ![1, 0, 0] (m ((c : Thread nD τ).loc main_arg4)) slices_S2x512x256_S1x512x256_1_0_0) shapeCasts_S1x512x256_S512x256 := by
    dsimp only [V, hostOps0]
    after_results
    rfl
  rw [h]
  pointwise
theorem V_v26_at (c : Dev nD) (k : Fin 3072) : V m c main_v26 (ix2 0 k) = m ((c : Thread nD τ).loc main_arg7) (ix1 k) := by
  have h : V m c main_v26 = shapeCast S1x3072 (m ((c : Thread nD τ).loc main_arg7)) shapeCasts_S3072_S1x3072 := by
    dsimp only [V, hostOps0]
    after_results
    rfl
  rw [h]
  pointwise
theorem V_v27_at (c : Dev nD) (k : Fin 3072) : V m c main_v27 (ix2 0 k) = m ((c : Thread nD τ).loc main_arg8) (ix1 k) := by
  have h : V m c main_v27 = shapeCast S1x3072 (m ((c : Thread nD τ).loc main_arg8)) shapeCasts_S3072_S1x3072 := by
    dsimp only [V, hostOps0]
    after_results
    rfl
  rw [h]
  pointwise

theorem hsV_at (c : Dev nD) (r : Fin 1024) (n : Fin 16) :
    hsV m c (ix2 r n) = Spec.score (fun r d => m ((c : Thread nD τ).loc main_arg0) (ix2 r d)) (fun r d => m ((c : Thread nD τ).loc main_arg1) (ix2 r d))
      (fun n d e => m ((c : Thread nD τ).loc main_arg2) (ix3 n d e)) (fun d e => m ((c : Thread nD τ).loc main_arg3) (ix3 1 d e)) r n := by
  unfold hsV Spec.score
  rw [hs_at]
  refine congrArg (fun z => Ideal.div z _) (Finset.sum_congr rfl fun e _ => ?_)
  rw [hq_at, hkk_at, hk_at]

end Cert.KernelIdeal.Hand

end
-- ==== Proof.Alg.lean ====
module

public import proofs.«01_k».proof.Defs
public import proofs.«01_k».proof.Proof.RefOut
public import proofs.«01_k».proof.Proof.KArr
public import proofs.«01_k».proof.Proof.KHostV
public import proofs.«01_k».proof.Proof.Quiet
public import proofs.«01_k».proof.Proof.Gen.ReferenceIdeal.Run

@[expose] public section

set_option maxRecDepth 16384

noncomputable section

namespace Cert.Algebra

open Idealize.ShloMosaic Idealize.SL.Sem
open Cert.KernelIdeal.Gen Cert.KernelIdeal.Hand

/-! ## The kernel's results are the reference's, floats as extended reals -/

variable (m : (ℓ : Loc Cert.KernelIdeal.nD Cert.KernelIdeal.τ Cert.KernelIdeal.sig) → Buf (Elt Ideal) ℓ) (c : Dev Cert.KernelIdeal.nD)

/-- The heads that are masked agree. -/
theorem mask_eq (r : Fin 1024) :
    kM m c r = Spec.mask16 (Cert.ReferenceIdeal.Hand.prow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) r) := by
  unfold kM
  refine congrArg Spec.mask16 (funext fun n => ?_)
  unfold Cert.ReferenceIdeal.Hand.prow
  rw [V_v22, hp0_at, hsV_at, Cert.ReferenceIdeal.Hand.v30_at]
  rfl

/-- The read-outs agree. -/
theorem att_eq :
    kA m c = Cert.ReferenceIdeal.Hand.rA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  unfold kA Cert.ReferenceIdeal.Hand.rA
  refine congrArg₂ Spec.att (funext fun r => funext fun n => ?_) (funext fun r => funext fun l => Finset.sum_congr rfl fun d _ => ?_)
  · rw [V_v23, hp1_at, hsV_at]
    rfl
  · unfold kI kWV
    rw [V_main_arg0, V_v25_at]

/-- The updated states agree. -/
theorem out_eq :
    G9 m c = Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext y
  obtain ⟨r, k, rfl⟩ : ∃ (r k : Fin 1024), y = ix2 r k := ⟨y 0, y 1, eq_ix2 y⟩
  refine Eq.trans ?_ (Cert.ReferenceIdeal.Hand.v96_at (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) r k).symm
  show Spec.out (kM m c) (kA m c) (kH m c) (kWI m c) (kWH m c) (kBI m c) (kBH m c) r k = _
  have hM : kM m c = fun r => Spec.mask16 (Cert.ReferenceIdeal.Hand.prow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) r) := funext fun r => mask_eq m c r
  have hH : kH m c = fun r d => (m ((c.tc : Thread Cert.KernelIdeal.nD Cert.KernelIdeal.τ).loc Cert.KernelIdeal.main_arg1)) (ix2 r d) := by
    funext r d; unfold kH; rw [V_main_arg1]
  have hI : kWI m c = fun k j => (m ((c.tc : Thread Cert.KernelIdeal.nD Cert.KernelIdeal.τ).loc Cert.KernelIdeal.main_arg5)) (ix2 k j) := by
    funext k j; unfold kWI; rw [V_main_arg5]
  have hW : kWH m c = fun k j => (m ((c.tc : Thread Cert.KernelIdeal.nD Cert.KernelIdeal.τ).loc Cert.KernelIdeal.main_arg6)) (ix2 k j) := by
    funext k j; unfold kWH; rw [V_main_arg6]
  have hB : kBI m c = fun k => (m ((c.tc : Thread Cert.KernelIdeal.nD Cert.KernelIdeal.τ).loc Cert.KernelIdeal.main_arg7)) (ix1 k) := by
    funext k; unfold kBI; rw [V_v26_at]
  have hC : kBH m c = fun k => (m ((c.tc : Thread Cert.KernelIdeal.nD Cert.KernelIdeal.τ).loc Cert.KernelIdeal.main_arg8)) (ix1 k) := by
    funext k; unfold kBH; rw [V_v27_at]
  rw [hM, att_eq, hH, hI, hW, hB, hC]

/-- The masks agree. -/
theorem masks_eq :
    G10 m c = Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext y
  obtain ⟨r, k, rfl⟩ : ∃ (r k : Fin 1024), y = ix2 r k := ⟨y 0, y 1, eq_ix2 y⟩
  refine Eq.trans ?_ (Cert.ReferenceIdeal.Hand.v53_at (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) r k).symm
  show kM m c r ⟨k.val / 64, _⟩ = _
  rw [mask_eq]

/-- The idealized kernel and the reference, from equal arguments, end with equal results and unchanged arguments. -/
theorem algebraic : Cert.algebraic_KernelIdeal_ReferenceIdeal (hKernelIdeal := Cert.KernelIdeal.Gen.facts) (hReferenceIdeal := Cert.ReferenceIdeal.Gen.facts) :=
  fun m ρ m' ρ' _ hag => ⟨fun c => G9 m c, fun c => G10 m c,
    (θ_run Cert.KernelIdeal.defs _ _).mono
      (fun r h c => ⟨((h.1.1 c).1 9).trans (final9 m c), ((h.1.1 c).1 10).trans (final10 m c), h.2.1 c⟩)
      (θ_run_and (run_main_quiescent (F := Ideal) m ρ) (frame_quiet (F := Ideal) m ρ)),
    (θ_run Cert.ReferenceIdeal.defs _ _).mono
      (fun r h c => by
        obtain ⟨a0, a1, a2, a3, a4, a5, a6, a7, a8, a9⟩ := hag c
        refine ⟨(h c).1.trans ?_, (h c).2.1.trans ?_, (h c).2.2⟩
        · rw [Cert.ReferenceIdeal.Read.val_main_v96_eq, a0, a1, a2, a3, a4, a5, a6, a7, a8]
          exact (out_eq m c).symm
        · rw [Cert.ReferenceIdeal.Read.val_main_v53_eq, a0, a1, a2, a3]
          exact (masks_eq m c).symm)
      (Cert.ReferenceIdeal.Value.run (F := Ideal) m' ρ')⟩

end Cert.Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Quiet
public import proofs.«01_k».proof.Proof.KQuiet
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The printed reference runs, leaves its arguments unchanged and ends with every counter at zero (it declares none). -/
theorem frame_r : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The frames of the kernel, of its idealization and of the reference, that the idealization changes nothing, and that the idealized
    kernel's two results are the reference's. -/
theorem claim : Cert.Claim := ⟨Cert.Kernel.Gen.facts, Cert.KernelIdeal.Gen.facts, Cert.ReferenceIdeal.Gen.facts,
  fun m ρ _ => Cert.Kernel.Hand.frame_quiet (F := Bits) m ρ, fun m ρ _ => Cert.KernelIdeal.Hand.frame_quiet (F := Ideal) m ρ, frame_r, trivial, Cert.Algebra.algebraic⟩

end Cert.Proof

end
